-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_cap" .f32 0x3D088889#32 ((1 / 30 : ℝ) : EReal)

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_v13_3) = v3 c
          ∧ r.2.mem ((c.tc : Thread Cert.ReferenceIdeal.nD Cert.ReferenceIdeal.τ).loc Cert.ReferenceIdeal.main_v13_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ok : Cert.Pre_ok.Facts),
    quiescent_Kernel (hKernel := hKernel)
    ∧ quiescent_KernelIdeal (hKernelIdeal := hKernelIdeal)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ok.lean ====
abbrev S24x1x3072 : Shape := ⟨3, ![24, 1, 3072]⟩
abbrev S3072x128256 : Shape := ⟨2, ![3072, 128256]⟩
abbrev S128256 : Shape := ⟨1, ![128256]⟩
abbrev S24x4008 : Shape := ⟨2, ![24, 4008]⟩
abbrev S24 : Shape := ⟨1, ![24]⟩
abbrev S24x1x64 : Shape := ⟨3, ![24, 1, 64]⟩
abbrev S_ : Shape := ⟨0, ![]⟩

class Facts : Prop where
  bitsLt_bf16_f32 : FTy.bits .bf16 < FTy.bits .f32
  bcast_S_S24x1x3072 : S_.BroadcastsInDim S24x1x3072 (![] : Fin 0 → Fin S24x1x3072.rank)
  reducesTo_S24x1x3072_S_d0_1_2 : S24x1x3072.ReducesTo [0, 1, 2] S_
  h_S_ : 0 < S_.numel
  bcast_S_S24 : S_.BroadcastsInDim S24 (![] : Fin 0 → Fin S24.rank)
  reducesTo_S24_S_d0 : S24.ReducesTo [0] S_
  bcast_S_S24x1x64 : S_.BroadcastsInDim S24x1x64 (![] : Fin 0 → Fin S24x1x64.rank)
  reducesTo_S24x1x64_S_d0_1_2 : S24x1x64.ReducesTo [0, 1, 2] S_

variable [Facts]

def fn {F : FTy → Type} [FloatOps F] (main_arg0 : FVec F S24x1x3072 .bf16) (main_arg1 : FVec F S3072x128256 .fp8e4m3) (main_arg2 : FVec F S128256 .f32) (main_arg3 : IVec S24x4008 32) (main_arg4 : FVec F S24 .f32) (main_arg5 : IVec S24x1x64 32) : IVec S_ 1 :=
  let main_v0 : FVec F S24x1x3072 .f32 := (extf .f32 · bitsLt_bf16_f32) main_arg0
  let main_v1 : FVec F S24x1x3072 .f32 := Host.absf main_v0
  let main_cst : FVec F S_ .f32 := constant S_ .f32 0x7F7F0000#32
  let main_v2 : FVec F S24x1x3072 .f32 := broadcastInDim S24x1x3072 ![] bcast_S_S24x1x3072 main_cst
  let main_v3 : IVec S24x1x3072 1 := cmpf .ole main_v1 main_v2
  let main_c : IVec S_ 1 := constantI S_ 1 1#1
  let main_v4 : IVec S_ 1 := (fun x v => Host.reduce IntOp.andi x v reducesTo_S24x1x3072_S_d0_1_2 h_S_) main_v3 main_c
  let main_cst_0 : FVec F S_ .f32 := constant S_ .f32 0x00000000#32
  let main_v5 : FVec F S24 .f32 := broadcastInDim S24 ![] bcast_S_S24 main_cst_0
  let main_v6 : IVec S24 1 := cmpf .une main_arg4 main_v5
  let main_c_1 : IVec S_ 1 := constantI S_ 1 1#1
  let main_v7 : IVec S_ 1 := (fun x v => Host.reduce IntOp.andi x v reducesTo_S24_S_d0 h_S_) main_v6 main_c_1
  let main_v8 : IVec S_ 1 := andi main_v4 main_v7
  let main_c_2 : IVec S_ 32 := constantI S_ 32 128256#32
  let main_v9 : IVec S24x1x64 32 := broadcastInDim S24x1x64 ![] bcast_S_S24x1x64 main_c_2
  let main_v10 : IVec S24x1x64 1 := cmpi .slt main_arg5 main_v9
  let main_c_3 : IVec S_ 1 := constantI S_ 1 1#1
  let main_v11 : IVec S_ 1 := (fun x v => Host.reduce IntOp.andi x v reducesTo_S24x1x64_S_d0_1_2 h_S_) main_v10 main_c_3
  let main_v12 : IVec S_ 1 := andi main_v8 main_v11
  main_v12
-- ==== Kernel.lean ====
abbrev S24x1x3072 : Shape := ⟨3, ![24, 1, 3072]⟩
abbrev S3072x128256 : Shape := ⟨2, ![3072, 128256]⟩
abbrev S128256 : Shape := ⟨1, ![128256]⟩
abbrev S24x4008 : Shape := ⟨2, ![24, 4008]⟩
abbrev S24 : Shape := ⟨1, ![24]⟩
abbrev S24x1x64 : Shape := ⟨3, ![24, 1, 64]⟩
abbrev S24x3072 : Shape := ⟨2, ![24, 3072]⟩
abbrev S1x128256 : Shape := ⟨2, ![1, 128256]⟩
abbrev S1x24 : Shape := ⟨2, ![1, 24]⟩
abbrev S24x1x128256 : Shape := ⟨3, ![24, 1, 128256]⟩
abbrev S3072x2048 : Shape := ⟨2, ![3072, 2048]⟩
abbrev S1x2048 : Shape := ⟨2, ![1, 2048]⟩
abbrev S24x128 : Shape := ⟨2, ![24, 128]⟩
abbrev S24x1x2048 : Shape := ⟨3, ![24, 1, 2048]⟩
abbrev S32x3072 : Shape := ⟨2, ![32, 3072]⟩
abbrev S24x1 : Shape := ⟨2, ![24, 1]⟩
abbrev S24x256 : Shape := ⟨2, ![24, 256]⟩
abbrev S8x3072 : Shape := ⟨2, ![8, 3072]⟩
abbrev S24x24 : Shape := ⟨2, ![24, 24]⟩
abbrev S24x64 : Shape := ⟨2, ![24, 64]⟩
abbrev S32x2048 : Shape := ⟨2, ![32, 2048]⟩
abbrev S24x2048 : Shape := ⟨2, ![24, 2048]⟩
abbrev S24x128x1 : Shape := ⟨3, ![24, 128, 1]⟩
abbrev S24x1x128 : Shape := ⟨3, ![24, 1, 128]⟩

abbrev nBuf : Space → Nat
  | .hbm => 14
  | .vmem => 23
  | .smem => 0
  | _ => 0

abbrev bufTy : (tb : Table) → Fin (tcTables nBuf tb) → BufTy
  | .hbm, ⟨0, _⟩ => ⟨S24x1x3072, .bf16⟩
  | .hbm, ⟨1, _⟩ => ⟨S3072x128256, .fp8e4m3⟩
  | .hbm, ⟨2, _⟩ => ⟨S128256, .f32⟩
  | .hbm, ⟨3, _⟩ => ⟨S24x4008, .i32⟩
  | .hbm, ⟨4, _⟩ => ⟨S24, .f32⟩
  | .hbm, ⟨5, _⟩ => ⟨S24x1x64, .i32⟩
  | .hbm, ⟨6, _⟩ => ⟨S24x3072, .bf16⟩
  | .hbm, ⟨7, _⟩ => ⟨S1x128256, .f32⟩
  | .hbm, ⟨8, _⟩ => ⟨S1x24, .f32⟩
  | .hbm, ⟨9, _⟩ => ⟨S24x1x128256, .f32⟩
  | .hbm, ⟨10, _⟩ => ⟨S1x24, .f32⟩
  | .hbm, ⟨11, _⟩ => ⟨S24x1x64, .f32⟩
  | .hbm, ⟨12, _⟩ => ⟨S24x3072, .fp8e4m3⟩
  | .hbm, ⟨13, _⟩ => ⟨S1x24, .f32⟩
  | .local _ .vmem, ⟨0, _⟩ => ⟨S24x3072, .bf16⟩
  | .local _ .vmem, ⟨1, _⟩ => ⟨S3072x2048, .fp8e4m3⟩
  | .local _ .vmem, ⟨2, _⟩ => ⟨S3072x2048, .fp8e4m3⟩
  | .local _ .vmem, ⟨3, _⟩ => ⟨S1x2048, .f32⟩
  | .local _ .vmem, ⟨4, _⟩ => ⟨S1x2048, .f32⟩
  | .local _ .vmem, ⟨5, _⟩ => ⟨S24x128, .i32⟩
  | .local _ .vmem, ⟨6, _⟩ => ⟨S24x128, .i32⟩
  | .local _ .vmem, ⟨7, _⟩ => ⟨S1x24, .f32⟩
  | .local _ .vmem, ⟨8, _⟩ => ⟨S24x1x64, .i32⟩
  | .local _ .vmem, ⟨9, _⟩ => ⟨S24x1x2048, .f32⟩
  | .local _ .vmem, ⟨10, _⟩ => ⟨S24x1x2048, .f32⟩
  | .local _ .vmem, ⟨11, _⟩ => ⟨S1x24, .f32⟩
  | .local _ .vmem, ⟨12, _⟩ => ⟨S24x1x64, .f32⟩
  | .local _ .vmem, ⟨13, _⟩ => ⟨S24x3072, .fp8e4m3⟩
  | .local _ .vmem, ⟨14, _⟩ => ⟨S1x24, .f32⟩
  | .local _ .vmem, ⟨15, _⟩ => ⟨S32x3072, .fp8e4m3⟩
  | .local _ .vmem, ⟨16, _⟩ => ⟨S24x1, .f32⟩
  | .local _ .vmem, ⟨17, _⟩ => ⟨S24x1, .f32⟩
  | .local _ .vmem, ⟨18, _⟩ => ⟨S24x128, .i32⟩
  | .local _ .vmem, ⟨19, _⟩ => ⟨S24x128, .f32⟩
  | .local _ .vmem, ⟨20, _⟩ => ⟨S24x128, .f32⟩
  | .local _ .vmem, ⟨21, _⟩ => ⟨S24x128, .f32⟩
  | .local _ .vmem, ⟨22, _⟩ => ⟨S24x128, .i32⟩
  | _, _ => ⟨S24x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![63], ![false]⟩

def k0_cond2 (i : grid0.Coords) : BitVec 1 :=
  let arg0 : BitVec 32 := BitVec.ofNat 32 (i 0).val
  let c62_i32 : BitVec 32 := 62#32
  let v755 : BitVec 1 := Scalar.cmpi .eq arg0 c62_i32
  let v756 : BitVec 32 := Scalar.extui v755
  let c0_i32_232 : BitVec 32 := 0#32
  let v757 : BitVec 1 := Scalar.cmpi .ne v756 c0_i32_232
  v757

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S24x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_cap" => some ((1 / 30 : ℝ) : EReal)
  | _ => none
-- ==== ReferenceIdeal.lean ====
abbrev S24x1x3072 : Shape := ⟨3, ![24, 1, 3072]⟩
abbrev S3072x128256 : Shape := ⟨2, ![3072, 128256]⟩
abbrev S128256 : Shape := ⟨1, ![128256]⟩
abbrev S24x4008 : Shape := ⟨2, ![24, 4008]⟩
abbrev S24 : Shape := ⟨1, ![24]⟩
abbrev S24x1x64 : Shape := ⟨3, ![24, 1, 64]⟩
abbrev S32 : Shape := ⟨1, ![32]⟩
abbrev S24x4008x1 : Shape := ⟨3, ![24, 4008, 1]⟩
abbrev S1x1x32 : Shape := ⟨3, ![1, 1, 32]⟩
abbrev S24x4008x32 : Shape := ⟨3, ![24, 4008, 32]⟩
abbrev S_ : Shape := ⟨0, ![]⟩
abbrev S24x128256 : Shape := ⟨2, ![24, 128256]⟩
abbrev S24x3072 : Shape := ⟨2, ![24, 3072]⟩
abbrev S1x128256 : Shape := ⟨2, ![1, 128256]⟩
abbrev S24x1 : Shape := ⟨2, ![24, 1]⟩
abbrev S24x64 : Shape := ⟨2, ![24, 64]⟩
abbrev S24x1x128256 : Shape := ⟨3, ![24, 1, 128256]⟩
abbrev S1x24 : Shape := ⟨2, ![1, 24]⟩
abbrev S1x253 : Shape := ⟨2, ![1, 253]⟩
abbrev S24x253 : Shape := ⟨2, ![24, 253]⟩
abbrev S24x64x128256 : Shape := ⟨3, ![24, 64, 128256]⟩
abbrev S24x64x1 : Shape := ⟨3, ![24, 64, 1]⟩

abbrev nBuf : Space → Nat
  | .hbm => 25
  | .vmem => 11
  | .smem => 0
  | _ => 0

abbrev bufTy : (tb : Table) → Fin (tcTables nBuf tb) → BufTy
  | .hbm, ⟨0, _⟩ => ⟨S24x1x3072, .bf16⟩
  | .hbm, ⟨1, _⟩ => ⟨S3072x128256, .fp8e4m3⟩
  | .hbm, ⟨2, _⟩ => ⟨S128256, .f32⟩
  | .hbm, ⟨3, _⟩ => ⟨S24x4008, .i32⟩
  | .hbm, ⟨4, _⟩ => ⟨S24, .f32⟩
  | .hbm, ⟨5, _⟩ => ⟨S24x1x64, .i32⟩
  | .hbm, ⟨6, _⟩ => ⟨S32, .i32⟩
  | .hbm, ⟨7, _⟩ => ⟨S24x4008x1, .i32⟩
  | .hbm, ⟨8, _⟩ => ⟨S1x1x32, .i32⟩
  | .hbm, ⟨9, _⟩ => ⟨S24x4008x32, .i32⟩
  | .hbm, ⟨10, _⟩ => ⟨S24x4008x32, .i32⟩
  | .hbm, ⟨11, _⟩ => ⟨S24x4008x32, .i32⟩
  | .hbm, ⟨12, _⟩ => ⟨S_, .i32⟩
  | .hbm, ⟨13, _⟩ => ⟨S24x4008x32, .i32⟩
  | .hbm, ⟨14, _⟩ => ⟨S24x4008x32, .i32⟩
  | .hbm, ⟨15, _⟩ => ⟨S24x128256, .i32⟩
  | .hbm, ⟨16, _⟩ => ⟨S24x3072, .bf16⟩
  | .hbm, ⟨17, _⟩ => ⟨S1x128256, .f32⟩
  | .hbm, ⟨18, _⟩ => ⟨S24x1, .f32⟩
  | .hbm, ⟨19, _⟩ => ⟨S24x64, .i32⟩
  | .hbm, ⟨20, _⟩ => ⟨S24x1x128256, .f32⟩
  | .hbm, ⟨21, _⟩ => ⟨S1x24, .f32⟩
  | .hbm, ⟨22, _⟩ => ⟨S24x1x64, .f32⟩
  | .hbm, ⟨23, _⟩ => ⟨S24x3072, .fp8e4m3⟩
  | .hbm, ⟨24, _⟩ => ⟨S1x24, .f32⟩
  | .local _ .vmem, ⟨0, _⟩ => ⟨S24x3072, .bf16⟩
  | .local _ .vmem, ⟨1, _⟩ => ⟨S3072x128256, .fp8e4m3⟩
  | .local _ .vmem, ⟨2, _⟩ => ⟨S1x128256, .f32⟩
  | .local _ .vmem, ⟨3, _⟩ => ⟨S24x128256, .i32⟩
  | .local _ .vmem, ⟨4, _⟩ => ⟨S24x1, .f32⟩
  | .local _ .vmem, ⟨5, _⟩ => ⟨S24x64, .i32⟩
  | .local _ .vmem, ⟨6, _⟩ => ⟨S24x1x128256, .f32⟩
  | .local _ .vmem, ⟨7, _⟩ => ⟨S1x24, .f32⟩
  | .local _ .vmem, ⟨8, _⟩ => ⟨S24x1x64, .f32⟩
  | .local _ .vmem, ⟨9, _⟩ => ⟨S24x3072, .fp8e4m3⟩
  | .local _ .vmem, ⟨10, _⟩ => ⟨S1x24, .f32⟩
  | _, _ => ⟨S24x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x128256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x128256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/-
  The frame of `Kernel`: the kernel's body runs from any contents of its scratch and output buffers and hands its input
  buffers back as it found them, so every execution of @main ends, with the argument arrays unchanged and every
  semaphore counter at zero. The proof data are relational (an input is left as found; nothing is said of an output),
  so that what a cut fetch leaves past an array's end is never named.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: from the inputs at any contents, the outputs and the scratch buffers at anything,
    it runs to its return and hands the inputs back unchanged. The four cases are the two branches on the grid point. -/
theorem kernelRun (c : Dev nD) (i : grid0.Coords) (arg1 : Memref sig .tc .vmem S24x3072 .bf16) (harg1 : arg1.IsWhole) (arg2 : Memref sig .tc .vmem S3072x2048 .fp8e4m3) (harg2 : arg2.IsWhole) (arg3 : Memref sig .tc .vmem S1x2048 .f32) (harg3 : arg3.IsWhole) (arg4 : Memref sig .tc .vmem S24x128 .i32) (harg4 : arg4.IsWhole) (arg5 : Memref sig .tc .vmem S1x24 .f32) (harg5 : arg5.IsWhole) (arg6 : Memref sig .tc .vmem S24x1x64 .i32) (harg6 : arg6.IsWhole) (arg7 : Memref sig .tc .vmem S24x1x2048 .f32) (harg7 : arg7.IsWhole) (arg8 : Memref sig .tc .vmem S1x24 .f32) (harg8 : arg8.IsWhole) (arg9 : Memref sig .tc .vmem S24x1x64 .f32) (harg9 : arg9.IsWhole) (arg10 : Memref sig .tc .vmem S24x3072 .fp8e4m3) (harg10 : arg10.IsWhole) (arg11 : Memref sig .tc .vmem S1x24 .f32) (harg11 : arg11.IsWhole)
    (x1 : Vec F S24x3072 .bf16) (x2 : Vec F S3072x2048 .fp8e4m3) (x3 : Vec F S1x2048 .f32) (x4 : Vec F S24x128 .i32) (x5 : Vec F S1x24 .f32) (x6 : Vec F S24x1x64 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) -∗ K ⟨⟩))
      ⊢ wp frame (wpE (defs₀ (F := F)) Variants.none c none) Set.univ
          (cc0_decode_head i arg1 harg1 arg2 harg2 arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  simp only [cc0_decode_head_eq_skeleton]; unfold cc0_decode_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%e0, %g0, -, G0⟩, ⟨%e1, %g1, -, G1⟩, ⟨%e2, %g2, -, G2⟩, ⟨%e3, %g3, -, G3⟩, ⟨%e4, %g4, -, G4⟩, ⟨%e5, %g5, -, G5⟩, ⟨%e6, %g6, -, G6⟩, ⟨%e7, %g7, -, G7⟩, Hk⟩
  subst hf1 hf2 hf3 hf4 hf5 hf6
  by_cases hc1 : k0_cond1 i = 1#1 <;> by_cases hc2 : k0_cond2 i = 1#1
  all_goals
    sl_exec (disch := first | sl_exact hc1 | sl_exact hc2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [G0]
    · iexists _, _; isplitr; swap; · iexact G0
      ipureintro; rfl
    isplitl [G1]
    · iexists _, _; isplitr; swap; · iexact G1
      ipureintro; rfl
    isplitl [G2]
    · iexists _, _; isplitr; swap; · iexact G2
      ipureintro; rfl
    isplitl [G3]
    · iexists _, _; isplitr; swap; · iexact G3
      ipureintro; rfl
    isplitl [G4]
    · iexists _, _; isplitr; swap; · iexact G4
      ipureintro; rfl
    isplitl [G5]
    · iexists _, _; isplitr; swap; · iexact G5
      ipureintro; rfl
    isplitl [G6]
    · iexists _, _; isplitr; swap; · iexact G6
      ipureintro; rfl
    iexists _, _; isplitr; swap; · iexact G7
    ipureintro; rfl

/-- The region's invariant conjunct by conjunct: the eight scratch buffers at some contents, the generator register. -/
theorem PhiA0_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- The proof data: the arrays as the region finds them; an input's buffer is left as found, nothing is said of an
    output's; the scratch is described nowhere; full shares; nothing owed. -/
def rdats (c : Dev nD) : RDat τ (Elt F) Unit ℕ (UR sig nD τ) ℕ cfg0 c where
  A w := V m c (Pipeline.arrRef spec0 w)
  after w t Y X := match w with
    | 0 | 1 | 2 | 3 | 4 | 5 => X = Y
    | _ => True
  Φ _ := Pipeline.ΦA spec0 c
  q _ := fullShare
  owed _ := 0

/-- The body at a point, from the staging buffers at `Y`. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10))
      ⊢ wp frame (wpE (defs₀ (F := F)) Variants.none c none) Set.univ (bodyAt0 t) fun _ =>
        iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X)
    ∗ (∃ X, ⌜(rdats m c).after 8 t (Y 8) X⌝ ∗ owns (c : Thread nD τ) (st0_8 t) fullShare X)
    ∗ (∃ X, ⌜(rdats m c).after 9 t (Y 9) X⌝ ∗ owns (c : Thread nD τ) (st0_9 t) fullShare X)
    ∗ (∃ X, ⌜(rdats m c).after 10 t (Y 10) X⌝ ∗ owns (c : Thread nD τ) (st0_10 t) fullShare X)) := by
  unfold bodyAt0
  rw [show (rdats m c).Φ t.succ = (rdats m c).Φ t.castSucc from rfl,
    show (rdats m c).owesAt () t.succ = (rdats m c).owesAt () t.castSucc from rfl,
    show (rdats m c).Φ t.castSucc = Pipeline.ΦA spec0 c from rfl]
  rw [PhiA0_eq]
  iintro ⟨⟨⟨G0, G1, G2, G3, G4, G5, G6, G7⟩, Hg⟩, Ho, H1, H2, H3, H4, H5, H6, H7, H8, H9, H10, H11⟩
  iapply (kernelRun (F := F) c (grid0.coords t) _ _ _ _ _ _ _ _ _ _ _ _ _ _ _ _ _ _ _ _ _ _ (Y 0) (Y 1) (Y 2) (Y 3) (Y 4) (Y 5) _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H1, H2, H3, H4, H5, H6, ⟨%d7, H7⟩, ⟨%d8, H8⟩, ⟨%d9, H9⟩, ⟨%d10, H10⟩, ⟨%d11, H11⟩, G0, G1, G2, G3, G4, G5, G6, G7⟩
  isplitl [G0 G1 G2 G3 G4 G5 G6 G7 Hg]
  · isplitl [G0 G1 G2 G3 G4 G5 G6 G7]
    · skip
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    iexact Hg
  isplitl [Ho]; · iexact Ho
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists d7; isplitr; swap; · iexact H7
    ipureintro; exact trivial
  isplitl [H8]
  · iexists d8; isplitr; swap; · iexact H8
    ipureintro; exact trivial
  isplitl [H9]
  · iexists d9; isplitr; swap; · iexact H9
    ipureintro; exact trivial
  isplitl [H10]
  · iexists d10; isplitr; swap; · iexact H10
    ipureintro; exact trivial
  iexists d11; isplitr; swap; · iexact H11
  ipureintro; exact trivial

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution of @main ends with every windowed array at contents the relational data allow, every other buffer
    as the region found it, and every counter at zero. -/
theorem run_main : θ_run defs (onTc (τ := τ) (main (F := F))) (s₀ m ρ)
    (fun r => Pipeline.RDat.FramePost (cfgs 0) (fun c => rdats m c) (V m) r ∧ r.2.sem = fun _ => 0) :=
  Pipeline.RDat.θ_run_frame (Q' := _) cfgs (0 : Fin 1) launch0 defs₀ Variants.none (fun c => rdats m c) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame with its conjunct on the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((Pipeline.RDat.FramePost.arr_in h.1 c 1 rfl).trans (V_main_arg1 m c)),
      ((h.1 c).2 main_arg2 (Pipeline.mem_restRefs_of main_arg2 (by decide) (by decide))).trans (V_main_arg2 m c),
      ((Pipeline.RDat.FramePost.arr_in h.1 c 3 rfl).trans (V_main_arg3 m c)),
      ((h.1 c).2 main_arg4 (Pipeline.mem_restRefs_of main_arg4 (by decide) (by decide))).trans (V_main_arg4 m c),
      ((Pipeline.RDat.FramePost.arr_in h.1 c 5 rfl).trans (V_main_arg5 m c))⟩, h.2⟩) (run_main m ρ)

end Cert.Kernel.Hand

end
-- ==== Proof.KernelIdealFrame.lean ====
/-
  The frame of `KernelIdeal`: the kernel's body runs from any contents of its scratch and output buffers and hands its input
  buffers back as it found them, so every execution of @main ends, with the argument arrays unchanged and every
  semaphore counter at zero. The proof data are relational (an input is left as found; nothing is said of an output),
  so that what a cut fetch leaves past an array's end is never named.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging memrefs: from the inputs at any contents, the outputs and the scratch buffers at anything,
    it runs to its return and hands the inputs back unchanged. The four cases are the two branches on the grid point. -/
theorem kernelRun (c : Dev nD) (i : grid0.Coords) (arg1 : Memref sig .tc .vmem S24x3072 .bf16) (harg1 : arg1.IsWhole) (arg2 : Memref sig .tc .vmem S3072x2048 .fp8e4m3) (harg2 : arg2.IsWhole) (arg3 : Memref sig .tc .vmem S1x2048 .f32) (harg3 : arg3.IsWhole) (arg4 : Memref sig .tc .vmem S24x128 .i32) (harg4 : arg4.IsWhole) (arg5 : Memref sig .tc .vmem S1x24 .f32) (harg5 : arg5.IsWhole) (arg6 : Memref sig .tc .vmem S24x1x64 .i32) (harg6 : arg6.IsWhole) (arg7 : Memref sig .tc .vmem S24x1x2048 .f32) (harg7 : arg7.IsWhole) (arg8 : Memref sig .tc .vmem S1x24 .f32) (harg8 : arg8.IsWhole) (arg9 : Memref sig .tc .vmem S24x1x64 .f32) (harg9 : arg9.IsWhole) (arg10 : Memref sig .tc .vmem S24x3072 .fp8e4m3) (harg10 : arg10.IsWhole) (arg11 : Memref sig .tc .vmem S1x24 .f32) (harg11 : arg11.IsWhole)
    (x1 : Vec F S24x3072 .bf16) (x2 : Vec F S3072x2048 .fp8e4m3) (x3 : Vec F S1x2048 .f32) (x4 : Vec F S24x128 .i32) (x5 : Vec F S1x24 .f32) (x6 : Vec F S24x1x64 .i32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) -∗ K ⟨⟩))
      ⊢ wp frame (wpE (defs₀ (F := F)) Variants.none c none) Set.univ
          (cc0_decode_head i arg1 harg1 arg2 harg2 arg3 harg3 arg4 harg4 arg5 harg5 arg6 harg6 arg7 harg7 arg8 harg8 arg9 harg9 arg10 harg10 arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) K := by
  simp only [cc0_decode_head_eq_skeleton]; unfold cc0_decode_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%e0, %g0, -, G0⟩, ⟨%e1, %g1, -, G1⟩, ⟨%e2, %g2, -, G2⟩, ⟨%e3, %g3, -, G3⟩, ⟨%e4, %g4, -, G4⟩, ⟨%e5, %g5, -, G5⟩, ⟨%e6, %g6, -, G6⟩, ⟨%e7, %g7, -, G7⟩, Hk⟩
  subst hf1 hf2 hf3 hf4 hf5 hf6
  by_cases hc1 : k0_cond1 i = 1#1 <;> by_cases hc2 : k0_cond2 i = 1#1
  all_goals
    sl_exec (disch := first | sl_exact hc1 | sl_exact hc2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [G0]
    · iexists _, _; isplitr; swap; · iexact G0
      ipureintro; rfl
    isplitl [G1]
    · iexists _, _; isplitr; swap; · iexact G1
      ipureintro; rfl
    isplitl [G2]
    · iexists _, _; isplitr; swap; · iexact G2
      ipureintro; rfl
    isplitl [G3]
    · iexists _, _; isplitr; swap; · iexact G3
      ipureintro; rfl
    isplitl [G4]
    · iexists _, _; isplitr; swap; · iexact G4
      ipureintro; rfl
    isplitl [G5]
    · iexists _, _; isplitr; swap; · iexact G5
      ipureintro; rfl
    isplitl [G6]
    · iexists _, _; isplitr; swap; · iexact G6
      ipureintro; rfl
    iexists _, _; isplitr; swap; · iexact G7
    ipureintro; rfl

/-- The region's invariant conjunct by conjunct: the eight scratch buffers at some contents, the generator register. -/
theorem PhiA0_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-- The proof data: the arrays as the region finds them; an input's buffer is left as found, nothing is said of an
    output's; the scratch is described nowhere; full shares; nothing owed. -/
def rdats (c : Dev nD) : RDat τ (Elt F) Unit ℕ (UR sig nD τ) ℕ cfg0 c where
  A w := V m c (Pipeline.arrRef spec0 w)
  after w t Y X := match w with
    | 0 | 1 | 2 | 3 | 4 | 5 => X = Y
    | _ => True
  Φ _ := Pipeline.ΦA spec0 c
  q _ := fullShare
  owed _ := 0

/-- The body at a point, from the staging buffers at `Y`. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10))
      ⊢ wp frame (wpE (defs₀ (F := F)) Variants.none c none) Set.univ (bodyAt0 t) fun _ =>
        iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X)
    ∗ (∃ X, ⌜(rdats m c).after 8 t (Y 8) X⌝ ∗ owns (c : Thread nD τ) (st0_8 t) fullShare X)
    ∗ (∃ X, ⌜(rdats m c).after 9 t (Y 9) X⌝ ∗ owns (c : Thread nD τ) (st0_9 t) fullShare X)
    ∗ (∃ X, ⌜(rdats m c).after 10 t (Y 10) X⌝ ∗ owns (c : Thread nD τ) (st0_10 t) fullShare X)) := by
  unfold bodyAt0
  rw [show (rdats m c).Φ t.succ = (rdats m c).Φ t.castSucc from rfl,
    show (rdats m c).owesAt () t.succ = (rdats m c).owesAt () t.castSucc from rfl,
    show (rdats m c).Φ t.castSucc = Pipeline.ΦA spec0 c from rfl]
  rw [PhiA0_eq]
  iintro ⟨⟨⟨G0, G1, G2, G3, G4, G5, G6, G7⟩, Hg⟩, Ho, H1, H2, H3, H4, H5, H6, H7, H8, H9, H10, H11⟩
  iapply (kernelRun (F := F) c (grid0.coords t) _ _ _ _ _ _ _ _ _ _ _ _ _ _ _ _ _ _ _ _ _ _ (Y 0) (Y 1) (Y 2) (Y 3) (Y 4) (Y 5) _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H1, H2, H3, H4, H5, H6, ⟨%d7, H7⟩, ⟨%d8, H8⟩, ⟨%d9, H9⟩, ⟨%d10, H10⟩, ⟨%d11, H11⟩, G0, G1, G2, G3, G4, G5, G6, G7⟩
  isplitl [G0 G1 G2 G3 G4 G5 G6 G7 Hg]
  · isplitl [G0 G1 G2 G3 G4 G5 G6 G7]
    · skip
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    iexact Hg
  isplitl [Ho]; · iexact Ho
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists d7; isplitr; swap; · iexact H7
    ipureintro; exact trivial
  isplitl [H8]
  · iexists d8; isplitr; swap; · iexact H8
    ipureintro; exact trivial
  isplitl [H9]
  · iexists d9; isplitr; swap; · iexact H9
    ipureintro; exact trivial
  isplitl [H10]
  · iexists d10; isplitr; swap; · iexact H10
    ipureintro; exact trivial
  iexists d11; isplitr; swap; · iexact H11
  ipureintro; exact trivial

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- Every execution of @main ends with every windowed array at contents the relational data allow, every other buffer
    as the region found it, and every counter at zero. -/
theorem run_main : θ_run defs (onTc (τ := τ) (main (F := F))) (s₀ m ρ)
    (fun r => Pipeline.RDat.FramePost (cfgs 0) (fun c => rdats m c) (V m) r ∧ r.2.sem = fun _ => 0) :=
  Pipeline.RDat.θ_run_frame (Q' := _) cfgs (0 : Fin 1) launch0 defs₀ Variants.none (fun c => rdats m c) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame with its conjunct on the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨((h.1 c).2 main_arg0 (Pipeline.mem_restRefs_of main_arg0 (by decide) (by decide))).trans (V_main_arg0 m c),
      ((Pipeline.RDat.FramePost.arr_in h.1 c 1 rfl).trans (V_main_arg1 m c)),
      ((h.1 c).2 main_arg2 (Pipeline.mem_restRefs_of main_arg2 (by decide) (by decide))).trans (V_main_arg2 m c),
      ((Pipeline.RDat.FramePost.arr_in h.1 c 3 rfl).trans (V_main_arg3 m c)),
      ((h.1 c).2 main_arg4 (Pipeline.mem_restRefs_of main_arg4 (by decide) (by decide))).trans (V_main_arg4 m c),
      ((Pipeline.RDat.FramePost.arr_in h.1 c 5 rfl).trans (V_main_arg5 m c))⟩, h.2⟩) (run_main m ρ)

end Cert.KernelIdeal.Hand

end
-- ==== Proof.KernelIdealStep.lean ====
/-
  What one run of the kernel's body computes, as functions of what it reads: the values the first grid point sets up, the
  tile of logits, and, chunk of 128 columns by chunk, the mask, the stored columns, the running maximum and sum and the
  candidates' logits. The sixteen printed copies of a chunk's operations are one function of the chunk's number here.
-/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-- A chunk's columns lie in the tile. -/
theorem slices_chunk (c : Fin 16) : S24x2048.Slices ![0, 128 * c.val] S24x128 := by
  revert c; decide

/-- The word index of a lane, from the parity of the grid point. -/
def widx (n : BitVec 32) : IVec S24x128 32 :=
  k0_pay22 (iota .tc S24x128 32 [1] iota_S24x128_d1_w32) (Scalar.select (Scalar.cmpi .eq 2#32 0#32) 1#32 2#32)
    (Scalar.remsi n (Scalar.select (Scalar.cmpi .eq 2#32 0#32) 1#32 2#32))
    (Scalar.andi (Scalar.xori (Scalar.cmpi .slt (Scalar.remsi n (Scalar.select (Scalar.cmpi .eq 2#32 0#32) 1#32 2#32)) 0#32) (Scalar.cmpi .slt (Scalar.select (Scalar.cmpi .eq 2#32 0#32) 1#32 2#32) 0#32)) (Scalar.cmpi .ne (Scalar.remsi n (Scalar.select (Scalar.cmpi .eq 2#32 0#32) 1#32 2#32)) 0#32))

/-- Chunk `c`'s columns of the tile of logits. -/
def lgV (L : FVec F S24x2048 .f32) (c : Fin 16) : FVec F S24x128 .f32 :=
  extractStridedSlice S24x128 ![0, 128 * c.val] L (slices_chunk c)

/-- The mask of chunk `c`: the token's bit is set and the chunk lies inside the vocabulary. -/
def okV (n : BitVec 32) (words : Vec F S24x128 .i32) (c : Fin 16) : IVec S24x128 1 :=
  have v88 : IVec S24x128 32 := addi (widx n) (broadcast S24x128 (BitVec.ofNat 32 (4 * c.val)))
  have v90 : IVec S24x128 1 := cmpi .slt v88 (broadcast S24x128 0#32)
  have v93 : IVec S24x128 32 := select v90 (addi v88 (broadcast S24x128 128#32)) v88
  have v95 : IVec S24x128 32 := shapeCast S24x128 (shapeCast S24x128x1 v93 shapeCasts_S24x128_S24x128x1) shapeCasts_S24x128x1_S24x128
  have v96 : IVec S24x128 32 := dynamicGather 1 words v95
  have v99 : IVec S24x128 1 := cmpi .ne (andi v96 k0_pay21) (broadcast S24x128 0#32)
  andi v99 (broadcast S24x128 (Scalar.cmpi .slt (Scalar.addi (Scalar.muli n 16#32) (BitVec.ofNat 32 c.val)) 1002#32))

/-- Chunk `c` of the logits, negative infinity where the mask forbids. -/
def mskV (n : BitVec 32) (L : FVec F S24x2048 .f32) (words : Vec F S24x128 .i32) (c : Fin 16) : FVec F S24x128 .f32 :=
  select (okV n words c) (lgV L c) (broadcast S24x128 (Scalar.ofBits .f32 0xFF800000#32))

/-- Chunk `c` as it is stored: the logits, zero where the mask forbids. -/
def stoV (n : BitVec 32) (L : FVec F S24x2048 .f32) (words : Vec F S24x128 .i32) (c : Fin 16) : FVec F S24x1x128 .f32 :=
  shapeCast S24x1x128 (select (okV n words c) (lgV L c) (broadcast S24x128 (Scalar.ofBits .f32 0x00000000#32))) shapeCasts_S24x128_S24x1x128

/-- The candidates' logits after chunk `c`: a candidate in this chunk reads its lane, another keeps what it had. -/
def clV (n : BitVec 32) (L : FVec F S24x2048 .f32) (cid : Vec F S24x128 .i32) (prev : FVec F S24x128 .f32) (c : Fin 16) : FVec F S24x128 .f32 :=
  have v45 : IVec S24x128 32 := andi cid (broadcast S24x128 127#32)
  have v74 : IVec S24x128 1 := cmpi .eq (shrsi cid (broadcast S24x128 7#32)) (broadcast S24x128 (Scalar.addi (Scalar.muli n 16#32) (BitVec.ofNat 32 c.val)))
  have v79 : IVec S24x128 32 := select (cmpi .slt v45 (broadcast S24x128 0#32)) (addi v45 (broadcast S24x128 128#32)) v45
  have v81 : IVec S24x128 32 := shapeCast S24x128 (shapeCast S24x128x1 v79 shapeCasts_S24x128_S24x128x1) shapeCasts_S24x128x1_S24x128
  select v74 (dynamicGather 1 (lgV L c) v81) prev

/-- The candidates' logits after the tile's sixteen chunks. -/
def clS (n : BitVec 32) (L : FVec F S24x2048 .f32) (cid : Vec F S24x128 .i32) (prev : FVec F S24x128 .f32) : FVec F S24x128 .f32 :=
  clV n L cid (clV n L cid (clV n L cid (clV n L cid (clV n L cid (clV n L cid (clV n L cid (clV n L cid (clV n L cid (clV n L cid (clV n L cid (clV n L cid (clV n L cid (clV n L cid (clV n L cid (clV n L cid prev 0) 1) 2) 3) 4) 5) 6) 7) 8) 9) 10) 11) 12) 13) 14) 15

/-- The running maximum after the tile. -/
def mxS (n : BitVec 32) (L : FVec F S24x2048 .f32) (words : Vec F S24x128 .i32) (M : Vec F S24x128 .f32) : FVec F S24x128 .f32 :=
  k0_pay124 (mskV n L words 0) (mskV n L words 1) (mskV n L words 2) (mskV n L words 3) (mskV n L words 4) (mskV n L words 5) (mskV n L words 6) (mskV n L words 7) (mskV n L words 8) (mskV n L words 9) (mskV n L words 10) (mskV n L words 11) (mskV n L words 12) (mskV n L words 13) (mskV n L words 14) (mskV n L words 15) M

/-- The running sum after the tile, rescaled to the new maximum. -/
def smS (n : BitVec 32) (L : FVec F S24x2048 .f32) (words : Vec F S24x128 .i32) (M S : Vec F S24x128 .f32) : FVec F S24x128 .f32 :=
  k0_pay126 (mskV n L words 7) (mskV n L words 8) (mskV n L words 9) (mskV n L words 10) (mskV n L words 11) (mskV n L words 12) (mskV n L words 13) (mskV n L words 14) (mskV n L words 15) (mxS n L words M)
    (k0_pay125 (mskV n L words 0) (mskV n L words 1) (mskV n L words 2) (mskV n L words 3) (mskV n L words 4) (mskV n L words 5) (mskV n L words 6) (mskV n L words 7) (mskV n L words 8) (mskV n L words 9) (mskV n L words 10) (mskV n L words 11) (mskV n L words 12) (mskV n L words 13) (mskV n L words 14) (mskV n L words 15) M S)

/-- Whether a candidate's mask word lies in this pair of tiles. -/
def cwA (n : BitVec 32) (cid : Vec F S24x128 .i32) : IVec S24x128 1 :=
  have v651 : BitVec 32 := Scalar.subi (Scalar.extui (Scalar.cmpi .sgt n 0#32)) (Scalar.extui (Scalar.cmpi .slt n 0#32))
  have v660 : BitVec 1 := Scalar.andi (Scalar.cmpi .ne v651 1#32) (Scalar.cmpi .ne (Scalar.remsi n 2#32) 0#32)
  have v662 : BitVec 32 := Scalar.select v660 (Scalar.subi (Scalar.divsi n 2#32) 1#32) (Scalar.divsi n 2#32)
  cmpi .eq (shrsi (shrsi cid (broadcast S24x128 5#32)) (broadcast S24x128 7#32)) (broadcast S24x128 v662)

/-- The mask word a candidate's lane gathers. -/
def cwB (words cid : Vec F S24x128 .i32) : IVec S24x128 32 :=
  have v643 : IVec S24x128 32 := shrsi cid (broadcast S24x128 5#32)
  have v666 : IVec S24x128 32 := andi v643 (broadcast S24x128 127#32)
  have v671 : IVec S24x128 32 := select (cmpi .slt v666 (broadcast S24x128 0#32)) (addi v666 (broadcast S24x128 128#32)) v666
  have v673 : IVec S24x128 32 := shapeCast S24x128 (shapeCast S24x128x1 v671 shapeCasts_S24x128_S24x128x1) shapeCasts_S24x128x1_S24x128
  dynamicGather 1 words v673

/-- The candidates' mask words after the tile: a candidate whose word lies in this pair of tiles reads it, another keeps what
    it had. -/
def cwS (n : BitVec 32) (words cid CW : Vec F S24x128 .i32) : IVec S24x128 32 :=
  select (cwA (F := F) n cid) (cwB (F := F) words cid) CW

/-- The tile as it is stored: column `v` is lane `v % 128` of chunk `v / 128`. -/
def stoS (n : BitVec 32) (L : FVec F S24x2048 .f32) (words : Vec F S24x128 .i32) : FVec F S24x1x2048 .f32 := fun y =>
  stoV n L words ⟨(y 2).val / 128, by have : (y 2).val < 2048 := (y 2).isLt; omega⟩
    (fun a => match a with | 0 => y 0 | 1 => y 1 | 2 => ⟨(y 2).val % 128, Nat.mod_lt _ (by decide)⟩)

/-- The candidates' ids as the first point lays them out: the 64 candidates, zero in the other lanes. -/
def cidI (x6 : Vec F S24x1x64 .i32) : IVec S24x128 32 := fun y =>
  if h : (y 1).val < 64 then k0_pay14 (F := F) x6 (fun a => match a with | 0 => y 0 | 1 => ⟨(y 1).val, h⟩) else 0#32

/-- The first 24 rows of the padded codes. -/
def rows24 (K : Vec F S32x3072 .fp8e4m3) : Vec F S24x3072 .fp8e4m3 := fun y =>
  K (fun a => match a with | 0 => ⟨(y 0).val, by have : (y 0).val < 24 := (y 0).isLt; show _ < 32; omega⟩ | 1 => y 1)

/-- What a run leaves, from the inputs `x`, the outputs `y` and the scratch `k` it finds. -/
structure Left (F : FTy → Type) where
  /-- The tile of logits as stored. -/
  lg : FVec F S24x1x2048 .f32
  /-- The log-sum-exp row. -/
  lse : Vec F S1x24 .f32
  /-- The candidates' log-probabilities. -/
  cand : Vec F S24x1x64 .f32
  /-- The codes. -/
  codes : Vec F S24x3072 .fp8e4m3
  /-- The scales' row. -/
  xs : Vec F S1x24 .f32
  /-- The scratch: padded codes, -/
  kK : Vec F S32x3072 .fp8e4m3
  /-- scales, -/
  kX : Vec F S24x1 .f32
  /-- gains, -/
  kG : Vec F S24x1 .f32
  /-- candidates, -/
  kC : Vec F S24x128 .i32
  /-- running maximum, -/
  kM : Vec F S24x128 .f32
  /-- running sum, -/
  kS : Vec F S24x128 .f32
  /-- candidates' logits, -/
  kL : Vec F S24x128 .f32
  /-- candidates' words. -/
  kW : Vec F S24x128 .i32

/-- The codes from the activations. -/
def codesI (x1 : Vec F S24x3072 .bf16) : FVec F S32x3072 .fp8e4m3 := k0_pay8 (k0_pay7 x1)

/-- The scales from the activations. -/
def xsI (x1 : Vec F S24x3072 .bf16) : FVec F S24x1 .f32 := k0_pay9 (k0_pay6 x1)

/-- The gains from the temperatures. -/
def gainI (x5 : Vec F S1x24 .f32) : FVec F S24x1 .f32 := k0_pay12 (k0_pay11 x5)

/-- The candidates' words before the first tile. -/
def cwI : IVec S24x128 32 := k0_pay19 k0_pay18

/-- One tile from the scratch it starts with: what it stores and what it leaves in the scratch; at the last point also the
    two results of the whole row. -/
def tile (n : BitVec 32) (last : Bool) (x2 : Vec F S3072x2048 .fp8e4m3) (x3 : Vec F S1x2048 .f32) (x4 : Vec F S24x128 .i32)
    (y8 : Vec F S1x24 .f32) (y9 : Vec F S24x1x64 .f32) (y10 : Vec F S24x3072 .fp8e4m3) (y11 : Vec F S1x24 .f32)
    (kK : Vec F S32x3072 .fp8e4m3) (kX : Vec F S24x1 .f32) (kG : Vec F S24x1 .f32) (kC : Vec F S24x128 .i32) (kM : Vec F S24x128 .f32) (kS : Vec F S24x128 .f32) (kL : Vec F S24x128 .f32) (kW : Vec F S24x128 .i32) : Left F where
  lg := stoS n (k0_pay20 kK x2 kX x3 kG) x4
  lse := if last then k0_pay2 (mxS n (k0_pay20 kK x2 kX x3 kG) x4 kM) (smS n (k0_pay20 kK x2 kX x3 kG) x4 kM kS) else y8
  cand := if last then k0_pay3 kC (clS n (k0_pay20 kK x2 kX x3 kG) kC kL) (mxS n (k0_pay20 kK x2 kX x3 kG) x4 kM) (smS n (k0_pay20 kK x2 kX x3 kG) x4 kM kS) (cwS (F := F) n x4 kC kW) else y9
  codes := y10
  xs := y11
  kK := kK
  kX := kX
  kG := kG
  kC := kC
  kM := mxS n (k0_pay20 kK x2 kX x3 kG) x4 kM
  kS := smS n (k0_pay20 kK x2 kX x3 kG) x4 kM kS
  kL := clS n (k0_pay20 kK x2 kX x3 kG) kC kL
  kW := cwS (F := F) n x4 kC kW

/-- One run of the body: the first point sets the scratch up from the inputs, the others keep what they find. -/
def run (first last : Bool) (n : BitVec 32) (x1 : Vec F S24x3072 .bf16) (x2 : Vec F S3072x2048 .fp8e4m3) (x3 : Vec F S1x2048 .f32) (x4 : Vec F S24x128 .i32) (x5 : Vec F S1x24 .f32) (x6 : Vec F S24x1x64 .i32) (y8 : Vec F S1x24 .f32) (y9 : Vec F S24x1x64 .f32) (y10 : Vec F S24x3072 .fp8e4m3) (y11 : Vec F S1x24 .f32) (kK : Vec F S32x3072 .fp8e4m3) (kX : Vec F S24x1 .f32) (kG : Vec F S24x1 .f32) (kC : Vec F S24x128 .i32) (kM : Vec F S24x128 .f32) (kS : Vec F S24x128 .f32) (kL : Vec F S24x128 .f32) (kW : Vec F S24x128 .i32) : Left F :=
  if first then tile n last x2 x3 x4 y8 y9 (rows24 (codesI x1)) (k0_pay10 (xsI x1)) (codesI x1) (xsI x1) (gainI x5) (cidI (F := F) x6) k0_pay15 k0_pay16 k0_pay17 cwI
  else tile n last x2 x3 x4 y8 y9 y10 y11 kK kX kG kC kM kS kL kW

end Cert.KernelIdeal.Hand

end
-- ==== Proof.KernelIdealRun.lean ====
/-
  One run of the kernel's body, by the symbolic executor: from the contents it finds to the contents `run` gives.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.Pipeline.Value
public import proofs.«01_k».proof.Proof.KernelIdealStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F]

local notation "𝕄" => MT nD τ sig Unit (Elt F) ℕ (UR sig nD τ) ℕ

/-- The stored maximum, its leaves replaced by equal ones. -/
theorem mx_c {n : BitVec 32} {K K' : Vec F S32x3072 .fp8e4m3} {x2 x2' : Vec F S3072x2048 .fp8e4m3} {X X' : Vec F S24x1 .f32} {x3 x3' : Vec F S1x2048 .f32} {G G' : Vec F S24x1 .f32} {x4 x4' : Vec F S24x128 .i32} {M M' : Vec F S24x128 .f32}  (hK : K = K') (hx2 : x2 = x2') (hX : X = X') (hx3 : x3 = x3') (hG : G = G') (hx4 : x4 = x4') (hM : M = M') :
    shapeCast S24x128 (mxS n (k0_pay20 K x2 X x3 G) x4 M) shapeCasts_S24x128_S24x128 = mxS n (k0_pay20 K' x2' X' x3' G') x4' M' := by
  subst hK hx2 hX hx3 hG hx4 hM; exact shapeCast_self _ _

/-- The stored sum, its leaves replaced by equal ones. -/
theorem sm_c {n : BitVec 32} {K K' : Vec F S32x3072 .fp8e4m3} {x2 x2' : Vec F S3072x2048 .fp8e4m3} {X X' : Vec F S24x1 .f32} {x3 x3' : Vec F S1x2048 .f32} {G G' : Vec F S24x1 .f32} {x4 x4' : Vec F S24x128 .i32} {M M' : Vec F S24x128 .f32} {S S' : Vec F S24x128 .f32}  (hK : K = K') (hx2 : x2 = x2') (hX : X = X') (hx3 : x3 = x3') (hG : G = G') (hx4 : x4 = x4') (hM : M = M') (hS : S = S') :
    shapeCast S24x128 (smS n (k0_pay20 K x2 X x3 G) x4 M S) shapeCasts_S24x128_S24x128 = smS n (k0_pay20 K' x2' X' x3' G') x4' M' S' := by
  subst hK hx2 hX hx3 hG hx4 hM hS; exact shapeCast_self _ _

/-- The stored candidates' logits, their leaves replaced by equal ones. -/
theorem cl_c {n : BitVec 32} {K K' : Vec F S32x3072 .fp8e4m3} {x2 x2' : Vec F S3072x2048 .fp8e4m3} {X X' : Vec F S24x1 .f32} {x3 x3' : Vec F S1x2048 .f32} {G G' : Vec F S24x1 .f32} {C C' : Vec F S24x128 .i32} {L L' : Vec F S24x128 .f32}  (hK : K = K') (hx2 : x2 = x2') (hX : X = X') (hx3 : x3 = x3') (hG : G = G') (hC : C = C') (hL : L = L') :
    shapeCast S24x128 (clS n (k0_pay20 K x2 X x3 G) C L) shapeCasts_S24x128_S24x128 = clS n (k0_pay20 K' x2' X' x3' G') C' L' := by
  subst hK hx2 hX hx3 hG hC hL; exact shapeCast_self _ _

/-- The stored candidates' words, their leaves replaced by equal ones. -/
theorem cw_c {n : BitVec 32} {x4 x4' : Vec F S24x128 .i32} {C C' : Vec F S24x128 .i32} {W W' : Vec F S24x128 .i32}  (hx4 : x4 = x4') (hC : C = C') (hW : W = W') :
    shapeCast S24x128 (cwS (F := F) n x4 C W) shapeCasts_S24x128_S24x128 = cwS (F := F) n x4' C' W' := by
  subst hx4 hC hW; exact shapeCast_self _ _

/-- The log-sum-exp row, its leaves replaced by equal ones. -/
theorem lse_c {n : BitVec 32} {K K' : Vec F S32x3072 .fp8e4m3} {x2 x2' : Vec F S3072x2048 .fp8e4m3} {X X' : Vec F S24x1 .f32} {x3 x3' : Vec F S1x2048 .f32} {G G' : Vec F S24x1 .f32} {x4 x4' : Vec F S24x128 .i32} {M M' : Vec F S24x128 .f32} {S S' : Vec F S24x128 .f32}  (hK : K = K') (hx2 : x2 = x2') (hX : X = X') (hx3 : x3 = x3') (hG : G = G') (hx4 : x4 = x4') (hM : M = M') (hS : S = S') :
    k0_pay2 (mxS n (k0_pay20 K x2 X x3 G) x4 M) (smS n (k0_pay20 K x2 X x3 G) x4 M S) = k0_pay2 (mxS n (k0_pay20 K' x2' X' x3' G') x4' M') (smS n (k0_pay20 K' x2' X' x3' G') x4' M' S') := by
  subst hK hx2 hX hx3 hG hx4 hM hS; rfl

/-- The candidates' log-probabilities, their leaves replaced by equal ones. -/
theorem cand_c {n : BitVec 32} {K K' : Vec F S32x3072 .fp8e4m3} {x2 x2' : Vec F S3072x2048 .fp8e4m3} {X X' : Vec F S24x1 .f32} {x3 x3' : Vec F S1x2048 .f32} {G G' : Vec F S24x1 .f32} {x4 x4' : Vec F S24x128 .i32} {M M' : Vec F S24x128 .f32} {S S' : Vec F S24x128 .f32} {C C' : Vec F S24x128 .i32} {L L' : Vec F S24x128 .f32} {W W' : Vec F S24x128 .i32} {Wn : Vec F S24x128 .i32} (hK : K = K') (hx2 : x2 = x2') (hX : X = X') (hx3 : x3 = x3') (hG : G = G') (hx4 : x4 = x4') (hM : M = M') (hS : S = S') (hC : C = C') (hL : L = L') (hW : W = W') (hWn : Wn = cwS (F := F) n x4 C W):
    k0_pay3 C (clS n (k0_pay20 K x2 X x3 G) C L) (mxS n (k0_pay20 K x2 X x3 G) x4 M) (smS n (k0_pay20 K x2 X x3 G) x4 M S) Wn = k0_pay3 C' (clS n (k0_pay20 K' x2' X' x3' G') C' L') (mxS n (k0_pay20 K' x2' X' x3' G') x4' M') (smS n (k0_pay20 K' x2' X' x3' G') x4' M' S') (cwS (F := F) n x4' C' W') := by
  subst hWn hK hx2 hX hx3 hG hx4 hM hS hC hL hW; rfl

/-- The sixteen stored chunks' tile. -/
def tileOf (w : Fin 16 → FVec F S24x1x128 .f32) : FVec F S24x1x2048 .f32 := fun y =>
  w ⟨(y 2).val / 128, by have : (y 2).val < 2048 := (y 2).isLt; omega⟩
    (fun a => match a with | 0 => y 0 | 1 => y 1 | 2 => ⟨(y 2).val % 128, Nat.mod_lt _ (by decide)⟩)

/-- A chunk's columns of the tile are the chunk. -/
theorem piece_at (w : Fin 16 → FVec F S24x1x128 .f32) (k : Fin 16) (inb : ∀ a, (![0, 0, 128 * k.val] : Fin 3 → ℕ) a + S24x1x128.size a ≤ S24x1x2048.size a)
    (x : S24x1x128.Idx) : w k x = tileOf w ((Rect.unit (s := S24x1x2048) ![0, 0, 128 * k.val] S24x1x128.size inb).emb x) := by
  have h2 : (x 2).val < 128 := (x 2).isLt
  have e2 : (((Rect.unit (s := S24x1x2048) ![0, 0, 128 * k.val] S24x1x128.size inb).emb x) 2).val = 128 * k.val + 1 * (x 2).val := rfl
  have e0 : (((Rect.unit (s := S24x1x2048) ![0, 0, 128 * k.val] S24x1x128.size inb).emb x) 0).val = 0 + 1 * (x 0).val := rfl
  have e1 : (((Rect.unit (s := S24x1x2048) ![0, 0, 128 * k.val] S24x1x128.size inb).emb x) 1).val = 0 + 1 * (x 1).val := rfl
  unfold tileOf
  congr 1
  · congr 1
    apply Fin.ext; show k.val = _ / 128; rw [e2]; omega
  · funext a
    match a with
    | 0 => apply Fin.ext; show (x 0).val = _; rw [e0]; omega
    | 1 => apply Fin.ext; show (x 1).val = _; rw [e1]; omega
    | 2 => apply Fin.ext; show (x 2).val = _ % 128; rw [e2]; omega

/-- What the sixteen stores of a tile leave. -/
theorem lg_read {sp : Space} (v : View sig .tc sp S24x1x2048 .f32) (f : v.ty.Contents (Elt F)) (w : Fin 16 → FVec F S24x1x128 .f32) :
    v.read (Elt F) (v.writes (Elt F) f [⟨Rect.unit (s := S24x1x2048) ![0, 0, 1920] S24x1x128.size inb_S24x1x2048_S24x1x128_0_0_1920, w 15⟩, ⟨Rect.unit (s := S24x1x2048) ![0, 0, 1792] S24x1x128.size inb_S24x1x2048_S24x1x128_0_0_1792, w 14⟩, ⟨Rect.unit (s := S24x1x2048) ![0, 0, 1664] S24x1x128.size inb_S24x1x2048_S24x1x128_0_0_1664, w 13⟩, ⟨Rect.unit (s := S24x1x2048) ![0, 0, 1536] S24x1x128.size inb_S24x1x2048_S24x1x128_0_0_1536, w 12⟩, ⟨Rect.unit (s := S24x1x2048) ![0, 0, 1408] S24x1x128.size inb_S24x1x2048_S24x1x128_0_0_1408, w 11⟩, ⟨Rect.unit (s := S24x1x2048) ![0, 0, 1280] S24x1x128.size inb_S24x1x2048_S24x1x128_0_0_1280, w 10⟩, ⟨Rect.unit (s := S24x1x2048) ![0, 0, 1152] S24x1x128.size inb_S24x1x2048_S24x1x128_0_0_1152, w 9⟩, ⟨Rect.unit (s := S24x1x2048) ![0, 0, 1024] S24x1x128.size inb_S24x1x2048_S24x1x128_0_0_1024, w 8⟩, ⟨Rect.unit (s := S24x1x2048) ![0, 0, 896] S24x1x128.size inb_S24x1x2048_S24x1x128_0_0_896, w 7⟩, ⟨Rect.unit (s := S24x1x2048) ![0, 0, 768] S24x1x128.size inb_S24x1x2048_S24x1x128_0_0_768, w 6⟩, ⟨Rect.unit (s := S24x1x2048) ![0, 0, 640] S24x1x128.size inb_S24x1x2048_S24x1x128_0_0_640, w 5⟩, ⟨Rect.unit (s := S24x1x2048) ![0, 0, 512] S24x1x128.size inb_S24x1x2048_S24x1x128_0_0_512, w 4⟩, ⟨Rect.unit (s := S24x1x2048) ![0, 0, 384] S24x1x128.size inb_S24x1x2048_S24x1x128_0_0_384, w 3⟩, ⟨Rect.unit (s := S24x1x2048) ![0, 0, 256] S24x1x128.size inb_S24x1x2048_S24x1x128_0_0_256, w 2⟩, ⟨Rect.unit (s := S24x1x2048) ![0, 0, 128] S24x1x128.size inb_S24x1x2048_S24x1x128_0_0_128, w 1⟩, ⟨Rect.unit (s := S24x1x2048) ![0, 0, 0] S24x1x128.size inb_S24x1x2048_S24x1x128_0_0_0, w 0⟩]) = tileOf w := by
  funext y
  refine View.read_writes_apply_of_pieces v f (tileOf w) _ ?_ y (View.cover_of_tiled _ ![24, 1, 128] rfl y)
  simp only [List.forall_mem_cons, List.not_mem_nil, false_imp_iff, implies_true, and_true]
  refine ⟨?_, ?_, ?_, ?_, ?_, ?_, ?_, ?_, ?_, ?_, ?_, ?_, ?_, ?_, ?_, ?_⟩
  · intro p; exact piece_at w 15 _ p
  · intro p; exact piece_at w 14 _ p
  · intro p; exact piece_at w 13 _ p
  · intro p; exact piece_at w 12 _ p
  · intro p; exact piece_at w 11 _ p
  · intro p; exact piece_at w 10 _ p
  · intro p; exact piece_at w 9 _ p
  · intro p; exact piece_at w 8 _ p
  · intro p; exact piece_at w 7 _ p
  · intro p; exact piece_at w 6 _ p
  · intro p; exact piece_at w 5 _ p
  · intro p; exact piece_at w 4 _ p
  · intro p; exact piece_at w 3 _ p
  · intro p; exact piece_at w 2 _ p
  · intro p; exact piece_at w 1 _ p
  · intro p; exact piece_at w 0 _ p

/-- The stored tile, its leaves replaced by equal ones. -/
theorem lg_c {n : BitVec 32} {K K' : Vec F S32x3072 .fp8e4m3} {x2 x2' : Vec F S3072x2048 .fp8e4m3} {X X' : Vec F S24x1 .f32} {x3 x3' : Vec F S1x2048 .f32} {G G' : Vec F S24x1 .f32} {x4 x4' : Vec F S24x128 .i32} {sp : Space} {v : View sig .tc sp S24x1x2048 .f32} {f : v.ty.Contents (Elt F)} (hK : K = K') (hx2 : x2 = x2') (hX : X = X') (hx3 : x3 = x3') (hG : G = G') (hx4 : x4 = x4') :
    v.read (Elt F) (v.writes (Elt F) f [⟨Rect.unit (s := S24x1x2048) ![0, 0, 1920] S24x1x128.size inb_S24x1x2048_S24x1x128_0_0_1920, stoV n (k0_pay20 K x2 X x3 G) x4 15⟩, ⟨Rect.unit (s := S24x1x2048) ![0, 0, 1792] S24x1x128.size inb_S24x1x2048_S24x1x128_0_0_1792, stoV n (k0_pay20 K x2 X x3 G) x4 14⟩, ⟨Rect.unit (s := S24x1x2048) ![0, 0, 1664] S24x1x128.size inb_S24x1x2048_S24x1x128_0_0_1664, stoV n (k0_pay20 K x2 X x3 G) x4 13⟩, ⟨Rect.unit (s := S24x1x2048) ![0, 0, 1536] S24x1x128.size inb_S24x1x2048_S24x1x128_0_0_1536, stoV n (k0_pay20 K x2 X x3 G) x4 12⟩, ⟨Rect.unit (s := S24x1x2048) ![0, 0, 1408] S24x1x128.size inb_S24x1x2048_S24x1x128_0_0_1408, stoV n (k0_pay20 K x2 X x3 G) x4 11⟩, ⟨Rect.unit (s := S24x1x2048) ![0, 0, 1280] S24x1x128.size inb_S24x1x2048_S24x1x128_0_0_1280, stoV n (k0_pay20 K x2 X x3 G) x4 10⟩, ⟨Rect.unit (s := S24x1x2048) ![0, 0, 1152] S24x1x128.size inb_S24x1x2048_S24x1x128_0_0_1152, stoV n (k0_pay20 K x2 X x3 G) x4 9⟩, ⟨Rect.unit (s := S24x1x2048) ![0, 0, 1024] S24x1x128.size inb_S24x1x2048_S24x1x128_0_0_1024, stoV n (k0_pay20 K x2 X x3 G) x4 8⟩, ⟨Rect.unit (s := S24x1x2048) ![0, 0, 896] S24x1x128.size inb_S24x1x2048_S24x1x128_0_0_896, stoV n (k0_pay20 K x2 X x3 G) x4 7⟩, ⟨Rect.unit (s := S24x1x2048) ![0, 0, 768] S24x1x128.size inb_S24x1x2048_S24x1x128_0_0_768, stoV n (k0_pay20 K x2 X x3 G) x4 6⟩, ⟨Rect.unit (s := S24x1x2048) ![0, 0, 640] S24x1x128.size inb_S24x1x2048_S24x1x128_0_0_640, stoV n (k0_pay20 K x2 X x3 G) x4 5⟩, ⟨Rect.unit (s := S24x1x2048) ![0, 0, 512] S24x1x128.size inb_S24x1x2048_S24x1x128_0_0_512, stoV n (k0_pay20 K x2 X x3 G) x4 4⟩, ⟨Rect.unit (s := S24x1x2048) ![0, 0, 384] S24x1x128.size inb_S24x1x2048_S24x1x128_0_0_384, stoV n (k0_pay20 K x2 X x3 G) x4 3⟩, ⟨Rect.unit (s := S24x1x2048) ![0, 0, 256] S24x1x128.size inb_S24x1x2048_S24x1x128_0_0_256, stoV n (k0_pay20 K x2 X x3 G) x4 2⟩, ⟨Rect.unit (s := S24x1x2048) ![0, 0, 128] S24x1x128.size inb_S24x1x2048_S24x1x128_0_0_128, stoV n (k0_pay20 K x2 X x3 G) x4 1⟩, ⟨Rect.unit (s := S24x1x2048) ![0, 0, 0] S24x1x128.size inb_S24x1x2048_S24x1x128_0_0_0, stoV n (k0_pay20 K x2 X x3 G) x4 0⟩]) = stoS n (k0_pay20 K' x2' X' x3' G') x4' := by
  subst hK hx2 hX hx3 hG hx4; exact lg_read v f (fun k => stoV n (k0_pay20 K x2 X x3 G) x4 k)

/-- The candidates' ids as the two stores of the first point leave them. -/
theorem cid_read {sp : Space} (v : View sig .tc sp S24x128 .i32) (f : v.ty.Contents (Elt F)) {x6 x6' : Vec F S24x1x64 .i32} (h : x6 = x6') :
    v.read (Elt F) (v.writes (Elt F) f [⟨Rect.unit (s := S24x128) ![0, 0] S24x64.size inb_S24x128_S24x64_0_0, k0_pay14 (F := F) x6⟩,
      ⟨Rect.unit (s := S24x128) ![0, 0] S24x128.size inb_S24x128_S24x128_0_0, k0_pay13⟩]) = cidI (F := F) x6' := by
  subst h
  funext y
  unfold cidI
  by_cases h : (y 1).val < 64
  · rw [dif_pos h]
    refine View.read_writes_cons_hit_of_coords v f _ _ _ _ y fun a => ?_
    match a with
    | 0 => show (y 0).val = 0 + 1 * (y 0).val; omega
    | 1 => show (y 1).val = 0 + 1 * (y 1).val; omega
  · rw [dif_neg h]
    refine (View.read_writes_cons_miss_of_axis v f _ _ y 1 0 64 rfl rfl rfl (.inr (by omega))).trans ?_
    rw [View.read_writes_full]
    rfl

/-- The same ids, as a later load of the run reads them. -/
theorem cid_cov {sp : Space} (v : View sig .tc sp S24x128 .i32) {x6 x6' : Vec F S24x1x64 .i32} (h : x6 = x6') :
    v.readCov (Val := Elt F) [⟨Rect.unit (s := S24x128) ![0, 0] S24x64.size inb_S24x128_S24x64_0_0, k0_pay14 (F := F) x6⟩,
      ⟨Rect.unit (s := S24x128) ![0, 0] S24x128.size inb_S24x128_S24x128_0_0, k0_pay13⟩]
      (Rect.unit (s := S24x128) ![0, 0] S24x128.size inb_S24x128_S24x128_0_0).toLoadRect = cidI (F := F) x6' :=
  (View.readAt_full v _ _).trans (cid_read v _ h)

/-- The first rows of the stored codes, as the first point's load reads them. -/
theorem rows_cov {sp : Space} (v : View sig .tc sp S32x3072 .fp8e4m3) {x1 x1' : Vec F S24x3072 .bf16} (h : x1 = x1')
    (L : List (View.Piece (Elt F) S32x3072 .fp8e4m3)) (inb : ∀ a, (![0, 0] : Fin 2 → ℕ) a + S24x3072.size a ≤ S32x3072.size a) :
    v.readCov (Val := Elt F) (⟨Rect.unit (s := S32x3072) ![0, 0] S32x3072.size inb_S32x3072_S32x3072_0_0, codesI (F := F) x1⟩ :: L)
      (Rect.unit (s := S32x3072) ![0, 0] S24x3072.size inb).toLoadRect = rows24 (F := F) (codesI x1') := by
  subst h
  funext y
  refine (congrFun (View.read_writes_full v _ _ _ _) _).trans ?_
  refine congrArg (codesI (F := F) x1) (funext fun a => Fin.ext ?_)
  match a with
  | 0 => show 0 + 1 * (y 0).val = (y 0).val; omega
  | 1 => show 0 + 1 * (y 1).val = (y 1).val; omega

set_option maxHeartbeats 20000000 in
/-- The body on whole staging memrefs, from any contents: what it leaves is `run`. -/
theorem kernelRunV (c : Dev nD) (i : grid0.Coords) (arg1 : Memref sig .tc .vmem S24x3072 .bf16) (harg1 : arg1.IsWhole) (arg2 : Memref sig .tc .vmem S3072x2048 .fp8e4m3) (harg2 : arg2.IsWhole) (arg3 : Memref sig .tc .vmem S1x2048 .f32) (harg3 : arg3.IsWhole) (arg4 : Memref sig .tc .vmem S24x128 .i32) (harg4 : arg4.IsWhole) (arg5 : Memref sig .tc .vmem S1x24 .f32) (harg5 : arg5.IsWhole) (arg6 : Memref sig .tc .vmem S24x1x64 .i32) (harg6 : arg6.IsWhole) (arg7 : Memref sig .tc .vmem S24x1x2048 .f32) (harg7 : arg7.IsWhole) (arg8 : Memref sig .tc .vmem S1x24 .f32) (harg8 : arg8.IsWhole) (arg9 : Memref sig .tc .vmem S24x1x64 .f32) (harg9 : arg9.IsWhole) (arg10 : Memref sig .tc .vmem S24x3072 .fp8e4m3) (harg10 : arg10.IsWhole) (arg11 : Memref sig .tc .vmem S1x24 .f32) (harg11 : arg11.IsWhole) (arg12 : Memref sig .tc .vmem S32x3072 .fp8e4m3) (harg12 : arg12.IsWhole) (arg13 : Memref sig .tc .vmem S24x1 .f32) (harg13 : arg13.IsWhole) (arg14 : Memref sig .tc .vmem S24x1 .f32) (harg14 : arg14.IsWhole) (arg15 : Memref sig .tc .vmem S24x128 .i32) (harg15 : arg15.IsWhole) (arg16 : Memref sig .tc .vmem S24x128 .f32) (harg16 : arg16.IsWhole) (arg17 : Memref sig .tc .vmem S24x128 .f32) (harg17 : arg17.IsWhole) (arg18 : Memref sig .tc .vmem S24x128 .f32) (harg18 : arg18.IsWhole) (arg19 : Memref sig .tc .vmem S24x128 .i32) (harg19 : arg19.IsWhole)
    (x1 : Vec F S24x3072 .bf16) (x2 : Vec F S3072x2048 .fp8e4m3) (x3 : Vec F S1x2048 .f32) (x4 : Vec F S24x128 .i32) (x5 : Vec F S1x24 .f32) (x6 : Vec F S24x1x64 .i32) (y8 : Vec F S1x24 .f32) (y9 : Vec F S24x1x64 .f32) (y10 : Vec F S24x3072 .fp8e4m3) (y11 : Vec F S1x24 .f32) (kK : Vec F S32x3072 .fp8e4m3) (kX : Vec F S24x1 .f32) (kG : Vec F S24x1 .f32) (kC : Vec F S24x128 .i32) (kM : Vec F S24x128 .f32) (kS : Vec F S24x128 .f32) (kL : Vec F S24x128 .f32) (kW : Vec F S24x128 .i32) (K : PUnit → sProp 𝕄) (R : Left F)
    (hR : R = run (decide (k0_cond1 i = 1#1)) (decide (k0_cond2 i = 1#1)) (BitVec.ofNat 32 (i 0).val) x1 x2 x3 x4 x5 x6 y8 y9 y10 y11 kK kX kG kC kM kS kL kW) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare kK ∗ owns (c : Thread nD τ) arg13 fullShare kX ∗ owns (c : Thread nD τ) arg14 fullShare kG ∗ owns (c : Thread nD τ) arg15 fullShare kC ∗ owns (c : Thread nD τ) arg16 fullShare kM ∗ owns (c : Thread nD τ) arg17 fullShare kS ∗ owns (c : Thread nD τ) arg18 fullShare kL ∗ owns (c : Thread nD τ) arg19 fullShare kW
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare R.lg ∗ owns (c : Thread nD τ) arg8 fullShare R.lse ∗ owns (c : Thread nD τ) arg9 fullShare R.cand ∗ owns (c : Thread nD τ) arg10 fullShare R.codes ∗ owns (c : Thread nD τ) arg11 fullShare R.xs ∗ owns (c : Thread nD τ) arg12 fullShare R.kK ∗ owns (c : Thread nD τ) arg13 fullShare R.kX ∗ owns (c : Thread nD τ) arg14 fullShare R.kG ∗ owns (c : Thread nD τ) arg15 fullShare R.kC ∗ owns (c : Thread nD τ) arg16 fullShare R.kM ∗ owns (c : Thread nD τ) arg17 fullShare R.kS ∗ owns (c : Thread nD τ) arg18 fullShare R.kL ∗ owns (c : Thread nD τ) arg19 fullShare R.kW) -∗ K ⟨⟩))
      ⊢ wp frame (wpE (defs₀ (F := F)) Variants.none c none) Set.univ
          (cc0_decode_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_decode_head_eq_skeleton]; unfold cc0_decode_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩, ⟨%g7, %hg7, G7⟩, Hk⟩
  by_cases hc1 : k0_cond1 i = 1#1
  · by_cases hc2 : k0_cond2 i = 1#1
    · simp only [run, hc1, hc2, decide_true, decide_false, if_true, Bool.false_eq_true, if_false] at hR
      subst hR
      subst hf1 hf2 hf3 hf4 hf5 hf6 hf8 hf9 hf10 hf11 hg0 hg1 hg2 hg3 hg4 hg5 hg6 hg7
      sl_exec (disch := first | sl_exact hc1 | sl_exact hc2)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; swap; · iexact H7
        ipureintro; refine lg_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _)
      isplitl [H8]
      · iexists _; isplitr; swap; · iexact H8
        ipureintro; refine (View.read_writes_full _ _ _ _ _).trans (lse_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _) (View.readCov_full _ _ _ _ _))
      isplitl [H9]
      · iexists _; isplitr; swap; · iexact H9
        ipureintro; refine (View.read_writes_full _ _ _ _ _).trans (cand_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _) (View.readCov_full _ _ _ _ _) (cid_cov _ (View.readAt_full _ _ _)) (View.readCov_full _ _ _ _ _) (by first | exact (View.readCov_full _ _ _ _ _) | rfl) ((View.readCov_full _ _ _ _ _).trans (cw_c (F := F) (by first | rfl | exact (View.readAt_full _ _ _)) (by first | rfl | exact (cid_cov _ (View.readAt_full _ _ _))) (by first | rfl | exact (View.readCov_full _ _ _ _ _)))))
      isplitl [H10]
      · iexists _; isplitr; swap; · iexact H10
        ipureintro; refine (View.read_writes_full _ _ _ _ _).trans (rows_cov _ (View.readAt_full _ _ _) _ _)
      isplitl [H11]
      · iexists _; isplitr; swap; · iexact H11
        ipureintro; refine (View.read_writes_full _ _ _ _ _).trans (congrArg k0_pay10 ((View.readCov_full _ _ _ _ _).trans (congrArg xsI (View.readAt_full _ _ _))))
      isplitl [G0]
      · iexists _; isplitr; swap; · iexact G0
        ipureintro; refine (View.read_writes_full _ _ _ _ _).trans (congrArg codesI (View.readAt_full _ _ _))
      isplitl [G1]
      · iexists _; isplitr; swap; · iexact G1
        ipureintro; refine (View.read_writes_full _ _ _ _ _).trans (congrArg xsI (View.readAt_full _ _ _))
      isplitl [G2]
      · iexists _; isplitr; swap; · iexact G2
        ipureintro; refine (View.read_writes_full _ _ _ _ _).trans (congrArg gainI (View.readAt_full _ _ _))
      isplitl [G3]
      · iexists _; isplitr; swap; · iexact G3
        ipureintro; refine cid_read _ _ (View.readAt_full _ _ _)
      isplitl [G4]
      · iexists _; isplitr; swap; · iexact G4
        ipureintro; refine (View.read_writes_full _ _ _ _ _).trans (mx_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _))
      isplitl [G5]
      · iexists _; isplitr; swap; · iexact G5
        ipureintro; refine (View.read_writes_full _ _ _ _ _).trans (sm_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _) (View.readCov_full _ _ _ _ _))
      isplitl [G6]
      · iexists _; isplitr; swap; · iexact G6
        ipureintro; refine (View.read_writes_full _ _ _ _ _).trans (cl_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (cid_cov _ (View.readAt_full _ _ _)) (View.readCov_full _ _ _ _ _))
      iexists _; isplitr; swap; · iexact G7
      ipureintro; refine (View.read_writes_full _ _ _ _ _).trans (cw_c (F := F) (n := BitVec.ofNat 32 (i 0).val) (View.readAt_full _ _ _) (cid_cov _ (View.readAt_full _ _ _)) (View.readCov_full _ _ _ _ _))
    · simp only [run, hc1, hc2, decide_true, decide_false, if_true, Bool.false_eq_true, if_false] at hR
      subst hR
      subst hf1 hf2 hf3 hf4 hf5 hf6 hf8 hf9 hf10 hf11 hg0 hg1 hg2 hg3 hg4 hg5 hg6 hg7
      sl_exec (disch := first | sl_exact hc1 | sl_exact hc2)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; swap; · iexact H7
        ipureintro; refine lg_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _)
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; refine (View.read_writes_full _ _ _ _ _).trans (rows_cov _ (View.readAt_full _ _ _) _ _)
      isplitl [H11]
      · iexists _; isplitr; swap; · iexact H11
        ipureintro; refine (View.read_writes_full _ _ _ _ _).trans (congrArg k0_pay10 ((View.readCov_full _ _ _ _ _).trans (congrArg xsI (View.readAt_full _ _ _))))
      isplitl [G0]
      · iexists _; isplitr; swap; · iexact G0
        ipureintro; refine (View.read_writes_full _ _ _ _ _).trans (congrArg codesI (View.readAt_full _ _ _))
      isplitl [G1]
      · iexists _; isplitr; swap; · iexact G1
        ipureintro; refine (View.read_writes_full _ _ _ _ _).trans (congrArg xsI (View.readAt_full _ _ _))
      isplitl [G2]
      · iexists _; isplitr; swap; · iexact G2
        ipureintro; refine (View.read_writes_full _ _ _ _ _).trans (congrArg gainI (View.readAt_full _ _ _))
      isplitl [G3]
      · iexists _; isplitr; swap; · iexact G3
        ipureintro; refine cid_read _ _ (View.readAt_full _ _ _)
      isplitl [G4]
      · iexists _; isplitr; swap; · iexact G4
        ipureintro; refine (View.read_writes_full _ _ _ _ _).trans (mx_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _))
      isplitl [G5]
      · iexists _; isplitr; swap; · iexact G5
        ipureintro; refine (View.read_writes_full _ _ _ _ _).trans (sm_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (View.readAt_full _ _ _) (View.readCov_full _ _ _ _ _) (View.readCov_full _ _ _ _ _))
      isplitl [G6]
      · iexists _; isplitr; swap; · iexact G6
        ipureintro; refine (View.read_writes_full _ _ _ _ _).trans (cl_c (F := F) (n := BitVec.ofNat 32 (i 0).val) ((View.readCov_full _ _ _ _ _).trans (congrArg codesI (View.readAt_full _ _ _))) (View.readAt_full _ _ _) ((View.readCov_full _ _ _ _ _).trans (congrArg xsI (View.readAt_full _ _ _))) (View.readAt_full _ _ _) ((View.readCov_full _ _ _ _ _).trans (congrArg gainI (View.readAt_full _ _ _))) (cid_cov _ (View.readAt_full _ _ _)) (View.readCov_full _ _ _ _ _))
      iexists _; isplitr; swap; · iexact G7
      ipureintro; refine (View.read_writes_full _ _ _ _ _).trans (cw_c (F := F) (n := BitVec.ofNat 32 (i 0).val) (View.readAt_full _ _ _) (cid_cov _ (View.readAt_full _ _ _)) (View.readCov_full _ _ _ _ _))
  · by_cases hc2 : k0_cond2 i = 1#1
    · simp only [run, hc1, hc2, decide_true, decide_false, if_true, Bool.false_eq_true, if_false] at hR
      subst hR
      subst hf1 hf2 hf3 hf4 hf5 hf6 hf8 hf9 hf10 hf11 hg0 hg1 hg2 hg3 hg4 hg5 hg6 hg7
      sl_exec (disch := first | sl_exact hc1 | sl_exact hc2)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; swap; · iexact H7
        ipureintro; refine lg_c (F := F) (n := BitVec.ofNat 32 (i 0).val) (View.readAt_full _ _ _) (View.readAt_full _ _ _) (View.readAt_full _ _ _) (View.readAt_full _ _ _) (View.readAt_full _ _ _) (View.readAt_full _ _ _)
      isplitl [H8]
      · iexists _; isplitr; swap; · iexact H8
        ipureintro; refine (View.read_writes_full _ _ _ _ _).trans (lse_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _) (View.readAt_full _ _ _))
      isplitl [H9]
      · iexists _; isplitr; swap; · iexact H9
        ipureintro; refine (View.read_writes_full _ _ _ _ _).trans (cand_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (View.readAt_full _ _ _) (by first | exact (View.readAt_full _ _ _) | rfl) ((View.readCov_full _ _ _ _ _).trans (cw_c (F := F) (by first | rfl | exact (View.readAt_full _ _ _)) (by first | rfl | exact (View.readAt_full _ _ _)) (by first | rfl | exact (View.readAt_full _ _ _)))))
      isplitl [H10]
      · iexists _; isplitr; swap; · iexact H10
        ipureintro; rfl
      isplitl [H11]
      · iexists _; isplitr; swap; · iexact H11
        ipureintro; rfl
      isplitl [G0]
      · iexists _; isplitr; swap; · iexact G0
        ipureintro; rfl
      isplitl [G1]
      · iexists _; isplitr; swap; · iexact G1
        ipureintro; rfl
      isplitl [G2]
      · iexists _; isplitr; swap; · iexact G2
        ipureintro; rfl
      isplitl [G3]
      · iexists _; isplitr; swap; · iexact G3
        ipureintro; rfl
      isplitl [G4]
      · iexists _; isplitr; swap; · iexact G4
        ipureintro; refine (View.read_writes_full _ _ _ _ _).trans (mx_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _))
      isplitl [G5]
      · iexists _; isplitr; swap; · iexact G5
        ipureintro; refine (View.read_writes_full _ _ _ _ _).trans (sm_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _) (View.readAt_full _ _ _))
      isplitl [G6]
      · iexists _; isplitr; swap; · iexact G6
        ipureintro; refine (View.read_writes_full _ _ _ _ _).trans (cl_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _))
      iexists _; isplitr; swap; · iexact G7
      ipureintro; refine (View.read_writes_full _ _ _ _ _).trans (cw_c (F := F) (n := BitVec.ofNat 32 (i 0).val) (View.readAt_full _ _ _) (View.readAt_full _ _ _) (View.readAt_full _ _ _))
    · simp only [run, hc1, hc2, decide_true, decide_false, if_true, Bool.false_eq_true, if_false] at hR
      subst hR
      subst hf1 hf2 hf3 hf4 hf5 hf6 hf8 hf9 hf10 hf11 hg0 hg1 hg2 hg3 hg4 hg5 hg6 hg7
      sl_exec (disch := first | sl_exact hc1 | sl_exact hc2)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; swap; · iexact H7
        ipureintro; refine lg_c (F := F) (n := BitVec.ofNat 32 (i 0).val) (View.readAt_full _ _ _) (View.readAt_full _ _ _) (View.readAt_full _ _ _) (View.readAt_full _ _ _) (View.readAt_full _ _ _) (View.readAt_full _ _ _)
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro; rfl
      isplitl [G0]
      · iexists _; isplitr; swap; · iexact G0
        ipureintro; rfl
      isplitl [G1]
      · iexists _; isplitr; swap; · iexact G1
        ipureintro; rfl
      isplitl [G2]
      · iexists _; isplitr; swap; · iexact G2
        ipureintro; rfl
      isplitl [G3]
      · iexists _; isplitr; swap; · iexact G3
        ipureintro; rfl
      isplitl [G4]
      · iexists _; isplitr; swap; · iexact G4
        ipureintro; refine (View.read_writes_full _ _ _ _ _).trans (mx_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _))
      isplitl [G5]
      · iexists _; isplitr; swap; · iexact G5
        ipureintro; refine (View.read_writes_full _ _ _ _ _).trans (sm_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _) (View.readAt_full _ _ _))
      isplitl [G6]
      · iexists _; isplitr; swap; · iexact G6
        ipureintro; refine (View.read_writes_full _ _ _ _ _).trans (cl_c (F := F) (n := BitVec.ofNat 32 (i 0).val) (View.readAt_full _ _ _) (View.readAt_full _ _ _) (View.readAt_full _ _ _) (View.readAt_full _ _ _) (View.readAt_full _ _ _) (View.readAt_full _ _ _) (View.readAt_full _ _ _))
      iexists _; isplitr; swap; · iexact G7
      ipureintro; refine (View.read_writes_full _ _ _ _ _).trans (cw_c (F := F) (n := BitVec.ofNat 32 (i 0).val) (View.readAt_full _ _ _) (View.readAt_full _ _ _) (View.readAt_full _ _ _))

end Cert.KernelIdeal.Hand

end
-- ==== Proof.Scale.lean ====
/-
  The two ways of reading a row's scale: the kernel counts the powers of two at or below the row's bound and writes the
  exponent into a word; the reference takes the least power of two above the bound. They name the same number.
-/
module

public import Idealize.ShloMosaic.Lib.Pointwise

@[expose] public section

noncomputable section

namespace Cert.Head

open Idealize.ShloMosaic

/-- How many of the words `x · 2²³`, `x = 1 … 255`, name a number at or below `f`. -/
def kcnt (f : EReal) : BitVec 32 :=
  Finset.fold IntOp.addi (0#32) (fun x : Fin 256 =>
    Scalar.select (IntOp.andi (IntOp.cmpi .sgt (BitVec.ofNat 32 x.val) 0#32)
      (BitVec.ofBool (decide (Ideal.ofBits .f32 (IntOp.shli .vector (BitVec.ofNat 32 x.val) 23#32) ≤ f)))) 1#32 0#32) Finset.univ

/-- The exponent the kernel derives from the count. -/
def kexp (f : EReal) : BitVec 32 :=
  Scalar.select (IntOp.ori (IntOp.cmpi .eq (kcnt f) 0#32) (IntOp.cmpi .eq (kcnt f) 255#32)) (0#32) (IntOp.subi (kcnt f) 126#32)

/-- The kernel's scale. -/
def kscale (f : EReal) : EReal := Ideal.ofBits .f32 (IntOp.shli .vector (IntOp.addi (kexp f) 127#32) 23#32)

/-- The kernel's reciprocal scale. -/
def kinv (f : EReal) : EReal := Ideal.ofBits .f32 (IntOp.shli .vector (IntOp.subi 127#32 (kexp f)) 23#32)

/-- The reference's scale: the least of 253 powers of two above `f`, one where `f` is subnormal. -/
def rscale (f : EReal) : EReal :=
  Scalar.select (BitVec.ofBool (decide (f < Ideal.ofBits .f32 0x00800000#32))) (1 : EReal)
    (Finset.fold min (Ideal.ofBits .f32 0x7F800000#32) (fun x : Fin 253 =>
      Scalar.select (BitVec.ofBool (decide (f < Ideal.exp2 (((IntOp.subi (BitVec.ofNat 32 x.val) 125#32).toInt : ℝ) : EReal))))
        (Ideal.exp2 (((IntOp.subi (BitVec.ofNat 32 x.val) 125#32).toInt : ℝ) : EReal)) (Ideal.ofBits .f32 0x7F800000#32)) Finset.univ)

/-- The word `x · 2²³` with `0 < x < 255` names `2 ^ (x - 127)`. -/
theorem ofBits_pow (x : Nat) (h0 : 0 < x) (h1 : x < 255) :
    Ideal.ofBits .f32 (IntOp.shli .vector (BitVec.ofNat 32 x) 23#32) = (((2 : ℝ) ^ ((x : Int) - 127) : ℝ) : EReal) := by
  have key : ∀ x : Fin 255, ((IntOp.shli .vector (BitVec.ofNat 32 x.val) 23#32).extractLsb' 31 1 == 1#1) = false
      ∧ ((IntOp.shli .vector (BitVec.ofNat 32 x.val) 23#32).extractLsb' 23 8).toNat = x.val
      ∧ ((IntOp.shli .vector (BitVec.ofNat 32 x.val) 23#32).extractLsb' 0 23).toNat = 0 := by decide +kernel
  obtain ⟨a, b, c⟩ := key ⟨x, h1⟩
  simp only at a b c
  simp only [Ideal.ofBits, Ideal.ieee]
  rw [show (8 + 23 : Nat) = 31 from rfl, a, b, c, if_neg (by omega), if_neg (by omega)]
  rw [EReal.coe_eq_coe_iff]
  have h2 : (2 : ℝ) ≠ 0 := by norm_num
  have e : ((x : Int) - 127) = 23 + ((x : Int) - (2 ^ (8 - 1) - 1) - (23 : Nat)) := by push_cast; ring
  rw [e, zpow_add₀ h2]
  have : (((2 ^ 23 + 0 : Nat) : ℝ)) = (2 : ℝ) ^ (23 : Int) := by rw [add_zero, Nat.cast_pow]; norm_cast
  rw [this]
  simp only [Bool.false_eq_true, if_false, one_mul]

/-- The word `255 · 2²³` names infinity. -/
theorem ofBits_inf : Ideal.ofBits .f32 0x7F800000#32 = ⊤ := by
  have a : ((0x7F800000#32).extractLsb' 31 1 == 1#1) = false := by decide
  have b : ((0x7F800000#32).extractLsb' 23 8).toNat = 255 := by decide
  have c : ((0x7F800000#32).extractLsb' 0 23).toNat = 0 := by decide
  simp only [Ideal.ofBits, Ideal.ieee]
  rw [show (8 + 23 : Nat) = 31 from rfl, a, b, c]; norm_num

/-- The word `-∞`. -/
theorem ofBits_ninf : Ideal.ofBits .f32 0xFF800000#32 = ⊥ := by
  have a : ((0xFF800000#32).extractLsb' 31 1 == 1#1) = true := by decide
  have b : ((0xFF800000#32).extractLsb' 23 8).toNat = 255 := by decide
  have c : ((0xFF800000#32).extractLsb' 0 23).toNat = 0 := by decide
  simp only [Ideal.ofBits, Ideal.ieee]
  rw [show (8 + 23 : Nat) = 31 from rfl, a, b, c]; norm_num

/-- The least normal word. -/
theorem ofBits_min : Ideal.ofBits .f32 0x00800000#32 = (((2 : ℝ) ^ (-126 : Int) : ℝ) : EReal) := by
  have := ofBits_pow 1 (by norm_num) (by norm_num)
  rw [show IntOp.shli .vector (BitVec.ofNat 32 1) 23#32 = 0x00800000#32 by decide] at this
  rw [this]; norm_num

/-- The power of two the reference lists at place `x`. -/
theorem exp2_pow (x : Fin 253) :
    Ideal.exp2 (((IntOp.subi (BitVec.ofNat 32 x.val) 125#32).toInt : ℝ) : EReal) = (((2 : ℝ) ^ ((x.val : Int) - 125) : ℝ) : EReal) := by
  have key : ∀ x : Fin 253, (IntOp.subi (BitVec.ofNat 32 x.val) 125#32).toInt = (x.val : Int) - 125 := by decide +kernel
  rw [key]
  show ((Real.rpow 2 _ : ℝ) : EReal) = _
  congr 1
  exact Real.rpow_intCast 2 _

/-- A count of the places `1 … b` among 256 is `b`. -/
theorem fold_count (b : Fin 256) :
    Finset.fold IntOp.addi (0#32) (fun x : Fin 256 => if 0 < x.val ∧ x.val ≤ b.val then 1#32 else 0#32) Finset.univ = BitVec.ofNat 32 b.val := by
  revert b; decide +kernel

/-- The kernel's count for a bound whose powers of two at or below it are the first `b`. -/
theorem kcnt_of (f : EReal) (b : Nat) (hb : b < 255)
    (h : ∀ x : Nat, 0 < x → x < 255 → ((((2 : ℝ) ^ ((x : Int) - 127) : ℝ) : EReal) ≤ f ↔ x ≤ b)) (htop : f < ⊤) :
    kcnt f = BitVec.ofNat 32 b := by
  rw [← fold_count ⟨b, by omega⟩]
  unfold kcnt
  congr 1
  funext x
  have hs : ∀ x : Fin 256, IntOp.cmpi .sgt (BitVec.ofNat 32 x.val) 0#32 = BitVec.ofBool (decide (0 < x.val)) := by decide +kernel
  rw [hs]
  by_cases h0 : 0 < x.val
  · by_cases h1 : x.val < 255
    · rw [ofBits_pow _ h0 h1]
      by_cases h2 : x.val ≤ b
      · rw [decide_eq_true ((h _ h0 h1).2 h2), decide_eq_true h0, if_pos ⟨h0, h2⟩]; rfl
      · rw [decide_eq_false (fun h3 => h2 ((h _ h0 h1).1 h3)), decide_eq_true h0, if_neg (fun h3 => h2 h3.2)]; rfl
    · have hx : x.val = 255 := by omega
      rw [hx, show IntOp.shli .vector (BitVec.ofNat 32 255) 23#32 = 0x7F800000#32 by decide, ofBits_inf,
        decide_eq_false (not_le.2 htop), if_neg (fun h3 => absurd h3.2 (by show ¬ 255 ≤ b; omega))]; rfl
  · rw [decide_eq_false h0, if_neg (fun h3 => h0 h3.1)]
    generalize BitVec.ofBool (decide (Ideal.ofBits .f32 _ ≤ f)) = d
    revert d; decide

/-- The exponent field from the count. -/
theorem kexp_of (f : EReal) (b : Fin 250) (h : kcnt f = BitVec.ofNat 32 b.val) :
    kexp f = if b.val = 0 then 0#32 else IntOp.subi (BitVec.ofNat 32 b.val) 126#32 := by
  unfold kexp; rw [h]; clear h; revert b; decide +kernel

/-- On a row's bound, nonnegative and below `2 ^ 120`, the two scales are one power of two and the kernel's reciprocal
    undoes it. -/
theorem scale_facts (f : ℝ) (h0 : 0 ≤ f) (h1 : f < 2 ^ (120 : Int)) :
    ∃ q : Int, kscale f = (((2 : ℝ) ^ q : ℝ) : EReal) ∧ rscale f = (((2 : ℝ) ^ q : ℝ) : EReal) ∧ kinv f = (((2 : ℝ) ^ (-q) : ℝ) : EReal) := by
  have two : (1 : ℝ) < 2 := by norm_num
  by_cases hs : f < 2 ^ (-126 : Int)
  · have hc : kcnt f = BitVec.ofNat 32 0 := kcnt_of f 0 (by norm_num) (fun x hx _ => by
      rw [EReal.coe_le_coe_iff]
      constructor
      · intro h
        have := (zpow_lt_zpow_iff_right₀ two).1 (h.trans_lt hs); omega
      · intro h; omega) (EReal.coe_lt_top f)
    have he : kexp f = 0#32 := by rw [kexp_of f 0 hc]; rfl
    have one : Ideal.ofBits .f32 (IntOp.shli .vector (127#32) 23#32) = (((2 : ℝ) ^ (0 : Int) : ℝ) : EReal) := by
      have := ofBits_pow 127 (by norm_num) (by norm_num)
      simpa using this
    refine ⟨0, ?_, ?_, ?_⟩
    · unfold kscale; rw [he]; exact one
    · unfold rscale
      rw [ofBits_min, decide_eq_true (EReal.coe_lt_coe_iff.2 hs)]
      simp [Scalar.select]
    · unfold kinv; rw [he]; exact one
  · have hs := not_lt.1 hs
    have hp : 0 < f := lt_of_lt_of_le (by positivity) hs
    obtain ⟨n, l1, l2⟩ := exists_mem_Ico_zpow hp two
    have n1 : -126 ≤ n := by have := (zpow_lt_zpow_iff_right₀ two).1 (hs.trans_lt l2); omega
    have n2 : n < 120 := (zpow_lt_zpow_iff_right₀ two).1 (l1.trans_lt h1)
    obtain ⟨b, hb⟩ : ∃ b : Nat, (b : Int) = n + 127 := ⟨(n + 127).toNat, by omega⟩
    have hc : kcnt f = BitVec.ofNat 32 b := kcnt_of f b (by omega) (fun x _ _ => by
      rw [EReal.coe_le_coe_iff]
      constructor
      · intro h
        have := (zpow_lt_zpow_iff_right₀ two).1 (h.trans_lt l2); omega
      · intro h
        exact ((zpow_le_zpow_iff_right₀ two).2 (by omega)).trans l1) (EReal.coe_lt_top f)
    have he : kexp f = IntOp.subi (BitVec.ofNat 32 b) 126#32 := by
      rw [kexp_of f ⟨b, by omega⟩ hc, if_neg (by show ¬ b = 0; omega)]
    refine ⟨n + 1, ?_, ?_, ?_⟩
    · unfold kscale
      have k : ∀ b : Fin 250, IntOp.addi (IntOp.subi (BitVec.ofNat 32 b.val) 126#32) 127#32 = BitVec.ofNat 32 (b.val + 1) := by decide +kernel
      rw [he, k ⟨b, by omega⟩, ofBits_pow _ (by omega) (by simp only; omega)]
      congr 2; push_cast; omega
    · unfold rscale
      rw [ofBits_min, decide_eq_false (not_lt.2 (EReal.coe_le_coe_iff.2 hs)), ofBits_inf]
      simp only [Scalar.select, BitVec.ofBool_false, BitVec.reduceEq, if_false]
      simp only [exp2_pow, EReal.coe_lt_coe_iff]
      apply le_antisymm
      · rw [Finset.fold_min_le]
        refine .inr ⟨⟨(n + 126).toNat, by omega⟩, Finset.mem_univ _, ?_⟩
        have : ((((n + 126).toNat : Nat) : Int) - 125) = n + 1 := by omega
        simp only [this, l2, decide_true, BitVec.ofBool_true, if_true, le_refl]
      · rw [Finset.le_fold_min]
        refine ⟨le_top, fun x _ => ?_⟩
        by_cases hx : f < (2 : ℝ) ^ ((x.val : Int) - 125)
        · simp only [hx, decide_true, BitVec.ofBool_true, if_true]
          rw [EReal.coe_le_coe_iff]
          have := (zpow_lt_zpow_iff_right₀ two).1 (l1.trans_lt hx)
          exact (zpow_le_zpow_iff_right₀ two).2 (by omega)
        · simp [hx]
    · unfold kinv
      have k : ∀ b : Fin 250, IntOp.subi 127#32 (IntOp.subi (BitVec.ofNat 32 b.val) 126#32) = BitVec.ofNat 32 (253 - b.val) := by decide +kernel
      rw [he, k ⟨b, by omega⟩, ofBits_pow _ (by simp only; omega) (by simp only; omega)]
      congr 2; simp only; omega

end Cert.Head

end
-- ==== Proof.Spec.lean ====
/-
  The head's five results as plain mathematics over the arguments' coordinates, and the sums of exponentials that the
  log-sum-exp of a row splits into, lane by lane and chunk by chunk.
-/
module

public import proofs.«01_k».proof.Proof.Scale

@[expose] public section

noncomputable section

namespace Cert.Head

open Idealize.ShloMosaic

/-- The arguments by coordinates: activations, weights, the columns' scales, the mask words, the temperatures and the
    candidates; the vocabulary's index is a natural number. -/
structure Args where
  /-- Activations. -/
  x : Fin 24 → Fin 3072 → EReal
  /-- Weights. -/
  w : Fin 3072 → Nat → EReal
  /-- Columns' scales. -/
  ws : Nat → EReal
  /-- Mask words. -/
  bits : Fin 24 → Nat → BitVec 32
  /-- Temperatures. -/
  temp : Fin 24 → EReal
  /-- Candidates. -/
  cand : Fin 24 → Fin 64 → BitVec 32

namespace Args

variable (A : Args)

/-- A row's bound: its largest magnitude over 448. -/
def bound (r : Fin 24) : EReal :=
  Finset.fold max (Ideal.ofBits .f32 0xFF800000#32) (fun k => max (A.x r k) (-A.x r k)) Finset.univ * Ideal.ofBits .f32 0x3B124925#32

/-- A row's scale. -/
def scale (r : Fin 24) : EReal := kscale (A.bound r)

/-- A code. -/
def code (r : Fin 24) (k : Fin 3072) : EReal :=
  min (Ideal.ofBits .f32 0x43E00000#32) (max (Ideal.ofBits .f32 0xC3E00000#32) (A.x r k * kinv (A.bound r)))

/-- A row's gain. -/
def gain (r : Fin 24) : EReal := Ideal.div (Ideal.ofBits .f32 0x41F00000#32) (A.temp r)

/-- A logit. -/
def lg (r : Fin 24) (v : Nat) : EReal :=
  Ideal.tanh ((∑ k, A.code r k * A.w k v) * A.scale r * A.ws v * ((1 / 30 : ℝ) : EReal)) * A.gain r

/-- Whether the mask allows a column: it lies in the vocabulary and its bit is set. -/
def ok (r : Fin 24) (v : Nat) : Prop := v < 128256 ∧ (A.bits r (v / 32)).getLsbD (v % 32) = true

instance (r : Fin 24) (v : Nat) : Decidable (A.ok r v) := by unfold ok; infer_instance

/-- A stored logit. -/
def out (r : Fin 24) (v : Nat) : EReal := if A.ok r v then A.lg r v else 0

/-- A row's log-sum-exp over the allowed columns. -/
def lse (r : Fin 24) : EReal :=
  Ideal.log ((∑ v ∈ Finset.range 128256, if A.ok r v then Real.exp (A.lg r v).toReal else 0 : ℝ) : EReal)

/-- A candidate's log-probability. -/
def lp (r : Fin 24) (j : Fin 64) : EReal :=
  if A.ok r (A.cand r j).toNat then A.lg r (A.cand r j).toNat - A.lse r else 0

/-- The sum of exponentials over the first `C` chunks of a lane, shifted by `μ`. -/
def lane (r : Fin 24) (l : Nat) (C : Nat) (μ : ℝ) : ℝ :=
  ∑ c ∈ Finset.range C, if A.ok r (128 * c + l) then Real.exp ((A.lg r (128 * c + l)).toReal - μ) else 0

/-- Every temperature is nonzero. -/
def TempOk : Prop := ∀ r, A.temp r ≠ 0

variable {A}

theorem ofBits_30 : Ideal.ofBits .f32 0x41F00000#32 = ((30 : ℝ) : EReal) := by
  have a : ((0x41F00000#32).extractLsb' 31 1 == 1#1) = false := by decide
  have b : ((0x41F00000#32).extractLsb' 23 8).toNat = 131 := by decide
  have c : ((0x41F00000#32).extractLsb' 0 23).toNat = 7340032 := by decide
  simp only [Ideal.ofBits, Ideal.ieee]
  rw [show (8 + 23 : Nat) = 31 from rfl, a, b, c]; norm_num

/-- A hyperbolic tangent is a real. -/
theorem tanh_real (z : EReal) : ∃ q : ℝ, Ideal.tanh z = q := by
  induction z with
  | bot => exact ⟨-1, by show (-1 : EReal) = _; simp⟩
  | top => exact ⟨1, by show (1 : EReal) = _; simp⟩
  | coe q => exact ⟨_, rfl⟩

/-- An inverse is a real. -/
theorem inv_real (z : EReal) : ∃ q : ℝ, z⁻¹ = q := by
  induction z with
  | bot => exact ⟨0, by simp⟩
  | top => exact ⟨0, by simp⟩
  | coe q => exact ⟨q⁻¹, (EReal.coe_inv q).symm⟩

/-- A gain is thirty over the temperature. -/
theorem gain_eq (h : A.TempOk) (r : Fin 24) : A.gain r = ((30 : ℝ) : EReal) * (A.temp r)⁻¹ := by
  unfold gain; rw [Ideal.div, if_neg (h r), ofBits_30]

/-- A logit is a real. -/
theorem lg_real (h : A.TempOk) (r : Fin 24) (v : Nat) : A.lg r v = ((A.lg r v).toReal : EReal) := by
  have : ∃ q : ℝ, A.lg r v = q := by
    unfold lg
    rw [gain_eq h]
    obtain ⟨p, hp⟩ := tanh_real ((∑ k, A.code r k * A.w k v) * A.scale r * A.ws v * ((1 / 30 : ℝ) : EReal))
    obtain ⟨q, hq⟩ := inv_real (A.temp r)
    rw [hp, hq]
    exact ⟨p * (30 * q), by norm_cast⟩
  obtain ⟨q, hq⟩ := this
  rw [hq]; rfl

/-- Shifting every exponent of a sum shifts its logarithm. -/
theorem log_shift {ι : Type*} (s : Finset ι) (p : ι → Prop) [DecidablePred p] (a : ι → ℝ) (μ : ℝ) :
    Ideal.log ((∑ i ∈ s, if p i then Real.exp (a i - μ) else 0 : ℝ) : EReal) + (μ : EReal)
      = Ideal.log ((∑ i ∈ s, if p i then Real.exp (a i) else 0 : ℝ) : EReal) := by
  have e : (∑ i ∈ s, if p i then Real.exp (a i - μ) else 0 : ℝ) = (∑ i ∈ s, if p i then Real.exp (a i) else 0 : ℝ) * Real.exp (-μ) := by
    rw [Finset.sum_mul]
    refine Finset.sum_congr rfl fun i _ => ?_
    split
    · rw [sub_eq_add_neg, Real.exp_add]
    · rw [zero_mul]
  have n : (0 : ℝ) ≤ ∑ i ∈ s, if p i then Real.exp (a i) else 0 :=
    Finset.sum_nonneg fun i _ => by split <;> positivity
  rw [e]
  generalize (∑ i ∈ s, if p i then Real.exp (a i) else 0 : ℝ) = T at n
  have pe := Real.exp_pos (-μ)
  rcases n.eq_or_lt with h | h
  · rw [← h, zero_mul]
    show (if (0 : ℝ) ≤ 0 then ⊥ else _) + _ = (if (0 : ℝ) ≤ 0 then ⊥ else _)
    simp
  · show (if T * Real.exp (-μ) ≤ 0 then ⊥ else ((Real.log (T * Real.exp (-μ)) : ℝ) : EReal)) + _ = (if T ≤ 0 then ⊥ else ((Real.log T : ℝ) : EReal))
    rw [if_neg (not_le.2 (mul_pos h pe)), if_neg (not_le.2 h), Real.log_mul h.ne' pe.ne', Real.log_exp, ← EReal.coe_add]
    congr 1; ring

/-- A sum over chunks of 128 lanes is a sum over columns. -/
theorem sum_chunks (f : Nat → ℝ) (C : Nat) :
    ∑ l ∈ Finset.range 128, ∑ c ∈ Finset.range C, f (128 * c + l) = ∑ v ∈ Finset.range (128 * C), f v := by
  rw [Finset.sum_comm]
  induction C with
  | zero => simp
  | succ C ih => rw [Finset.sum_range_succ, ih, Nat.mul_succ, Finset.sum_range_add]

/-- The lanes of the whole vocabulary, put back together at one shift: the row's log-sum-exp. -/
theorem lse_of_lanes (r : Fin 24) (μ : Fin 128 → ℝ) (M : ℝ) :
    (M : EReal) + Ideal.log ((∑ l : Fin 128, A.lane r l.val 1008 (μ l) * Real.exp (μ l - M) : ℝ) : EReal) = A.lse r := by
  rw [add_comm]
  have e : (∑ l : Fin 128, A.lane r l.val 1008 (μ l) * Real.exp (μ l - M) : ℝ)
      = ∑ v ∈ Finset.range 128256, if A.ok r v then Real.exp ((A.lg r v).toReal - M) else 0 := by
    have e1 : ∀ l : Fin 128, A.lane r l.val 1008 (μ l) * Real.exp (μ l - M)
        = ∑ c ∈ Finset.range 1008, if A.ok r (128 * c + l.val) then Real.exp ((A.lg r (128 * c + l.val)).toReal - M) else 0 := by
      intro l
      unfold lane
      rw [Finset.sum_mul]
      refine Finset.sum_congr rfl fun c _ => ?_
      split
      · rw [← Real.exp_add]; congr 1; ring
      · rw [zero_mul]
    rw [Finset.sum_congr rfl fun l _ => e1 l,
      Fin.sum_univ_eq_sum_range (fun l => ∑ c ∈ Finset.range 1008, if A.ok r (128 * c + l) then Real.exp ((A.lg r (128 * c + l)).toReal - M) else 0) 128,
      sum_chunks (fun v => if A.ok r v then Real.exp ((A.lg r v).toReal - M) else 0) 1008]
    symm
    refine Finset.sum_subset (fun v hv => ?_) (fun v _ hv => ?_)
    · rw [Finset.mem_range] at hv ⊢; omega
    · rw [Finset.mem_range] at hv
      exact if_neg fun h => hv h.1
  rw [e, log_shift]; rfl

/-- A finite maximum of reals (and of negative infinities, at least one real) is a real. -/
theorem fold_max_real {ι : Type*} (s : Finset ι) (a : ι → ℝ) (h : s.Nonempty) :
    ∃ q : ℝ, Finset.fold max (⊥ : EReal) (fun i => (a i : EReal)) s = q := by
  classical
  induction h using Finset.Nonempty.cons_induction with
  | singleton i => exact ⟨a i, by rw [Finset.fold_singleton]; exact max_bot_right _⟩
  | cons i s hi _ ih =>
    obtain ⟨q, hq⟩ := ih
    refine ⟨max (a i) q, ?_⟩
    rw [Finset.fold_cons, hq]
    rcases le_total (a i) q with h | h
    · rw [max_eq_right h, max_eq_right (EReal.coe_le_coe_iff.2 h)]
    · rw [max_eq_left h, max_eq_left (EReal.coe_le_coe_iff.2 h)]

end Args

end Cert.Head

end
-- ==== Proof.Words.lean ====
/-
  Facts about the index words the body computes: chunk numbers, word indices, lane positions and mask bits.
-/
module

public import Idealize.ShloMosaic.Lib.Pointwise
public import Idealize.ShloMosaic.Lib.PackedFields
public import Idealize.ShloMosaic.Lib.WordCmp

@[expose] public section

noncomputable section

namespace Cert.Head

open Idealize.ShloMosaic

/-- A word shifted right by 7 is a small number exactly when its quotient by 128 is. -/
theorem shr7_iff (x : BitVec 32) (k : Nat) (hk : k < 1024) :
    IntOp.shrsi .vector x 7#32 = BitVec.ofNat 32 k ↔ x.toNat / 128 = k := by
  rw [show (7#32) = BitVec.ofNat 32 7 from rfl, PackedFields.shrsi_eq_iff x 7 k (by norm_num) (by norm_num; omega)]
  omega

/-- A word shifted right by 5 is a small number exactly when its quotient by 32 is. -/
theorem shr5_iff (x : BitVec 32) (k : Nat) (hk : k < 8192) :
    IntOp.shrsi .vector x 5#32 = BitVec.ofNat 32 k ↔ x.toNat / 32 = k := by
  rw [show (5#32) = BitVec.ofNat 32 5 from rfl, PackedFields.shrsi_eq_iff x 5 k (by norm_num) (by norm_num; omega)]
  omega

/-- The two shifts one after the other divide by 4096. -/
theorem shr12_iff (x : BitVec 32) (k : Nat) (hk : k < 64) :
    IntOp.shrsi .vector (IntOp.shrsi .vector x 5#32) 7#32 = BitVec.ofNat 32 k ↔ x.toNat / 4096 = k := by
  rw [shr7_iff _ k (by omega)]
  constructor
  · intro h
    have e : IntOp.shrsi .vector x 5#32 = BitVec.ofNat 32 (IntOp.shrsi .vector x 5#32).toNat := by simp
    have := (shr5_iff x _ (by omega)).1 e
    omega
  · intro h
    have e := (shr5_iff x (x.toNat / 32) (by omega)).2 rfl
    rw [e, BitVec.toNat_ofNat]
    omega

/-- The low seven bits of a word. -/
theorem and127 (x : BitVec 32) : (IntOp.andi x 127#32).toNat = x.toNat % 128 := by
  show (x &&& 127#32).toNat = _
  rw [BitVec.toNat_and]
  exact Nat.and_two_pow_sub_one_eq_mod x.toNat 7

/-- The low five bits of a word. -/
theorem and31 (x : BitVec 32) : (IntOp.andi x 31#32).toNat = x.toNat % 32 := by
  show (x &&& 31#32).toNat = _
  rw [BitVec.toNat_and]
  exact Nat.and_two_pow_sub_one_eq_mod x.toNat 5

/-- The wrapped lane index a gather takes is the word's residue. -/
theorem wrap127 (x y : BitVec 32) :
    Scalar.select (IntOp.cmpi .slt (IntOp.andi x 127#32) 0#32) y (IntOp.andi x 127#32) = IntOp.andi x 127#32 := by
  rw [WordCmp.cmpi_slt_zero, decide_eq_false]
  · rfl
  · rw [and127]; omega

/-- Testing bit `k` of a word by shifting it down. -/
theorem bit_shift (x k : BitVec 32) (hk : k.toNat < 32) :
    IntOp.cmpi .eq (IntOp.andi (IntOp.shrsi .vector x k) 1#32) 1#32 = BitVec.ofBool (x.getLsbD k.toNat) := by
  rw [WordCmp.cmpi_eq_eq]
  congr 1
  have : IntOp.andi (IntOp.shrsi .vector x k) 1#32 = if x.getLsbD k.toNat then 1#32 else 0#32 := by
    unfold IntOp.shrsi IntOp.andi
    rw [if_pos hk]
    show (x.sshiftRight k.toNat) &&& 1#32 = _
    have h := BitVec.and_twoPow (x.sshiftRight k.toNat) 0
    have one : BitVec.twoPow 32 0 = 1#32 := by decide
    rw [one] at h
    rw [h, BitVec.getLsbD_sshiftRight]
    simp [hk]
  rw [this]
  cases x.getLsbD k.toNat <;> decide

/-- The bit table of a lane. -/
theorem bit_table (l : Fin 128) : IntOp.shli .vector 1#32 (IntOp.andi (BitVec.ofNat 32 l.val) 31#32) = BitVec.twoPow 32 (l.val % 32) := by
  revert l; decide +kernel

/-- Testing a lane's bit of a word by masking. -/
theorem bit_mask (x : BitVec 32) (l : Fin 128) :
    IntOp.cmpi .ne (IntOp.andi x (IntOp.shli .vector 1#32 (IntOp.andi (BitVec.ofNat 32 l.val) 31#32))) 0#32 = BitVec.ofBool (x.getLsbD (l.val % 32)) := by
  rw [bit_table, WordCmp.cmpi_ne_eq]
  congr 1
  show decide (x &&& _ ≠ _) = _
  rw [BitVec.and_twoPow]
  have h : ∀ k : Fin 32, BitVec.twoPow 32 k.val ≠ 0#32 := by decide
  have := h ⟨l.val % 32, Nat.mod_lt _ (by norm_num)⟩
  cases x.getLsbD (l.val % 32) <;> simp_all

/-- A sum over a row that keeps its diagonal. -/
theorem sum_diag (f : Fin 24 → EReal) (r : Fin 24) :
    ∑ x, Scalar.select (IntOp.cmpi .eq (BitVec.ofNat 32 x.val) (BitVec.ofNat 32 r.val)) (f x) 0 = f r := by
  rw [Finset.sum_eq_single r]
  · rw [IntOp.cmpi_eq_self]; rfl
  · intro b _ hb
    rw [WordCmp.cmpi_eq_ofNat (by have := b.isLt; omega) (by have := r.isLt; omega), decide_eq_false (fun h => hb (Fin.ext h))]; rfl
  · intro h; exact absurd (Finset.mem_univ r) h

/-- The same with the comparison's sides exchanged. -/
theorem sum_diag' (f : Fin 24 → EReal) (r : Fin 24) :
    ∑ x, Scalar.select (IntOp.cmpi .eq (BitVec.ofNat 32 r.val) (BitVec.ofNat 32 x.val)) (f x) 0 = f r := by
  rw [Finset.sum_eq_single r]
  · rw [IntOp.cmpi_eq_self]; rfl
  · intro b _ hb
    rw [WordCmp.cmpi_eq_ofNat (by have := r.isLt; omega) (by have := b.isLt; omega), decide_eq_false (fun h => hb (Fin.ext h.symm))]; rfl
  · intro h; exact absurd (Finset.mem_univ r) h

end Cert.Head

end
-- ==== Proof.KernelIdealLanes.lean ====
/-
  One tile of the kernel at the ideal numbers, lane by lane: given that the scratch holds what the first `T` tiles leave, the
  tile's stored logits, and that the scratch it leaves is what `T + 1` tiles leave.
-/
module

public import proofs.«01_k».proof.Proof.KernelIdealStep
public import proofs.«01_k».proof.Proof.Spec
public import proofs.«01_k».proof.Proof.Words

@[expose] public section

noncomputable section

namespace Cert.KernelIdeal.Hand

open Cert.KernelIdeal Cert.KernelIdeal.Gen
open Cert.Head
open Idealize.ShloMosaic

set_option maxRecDepth 16384

variable (A : Args)

/-- A lane's candidate: the 64 candidates, zero in the other lanes. -/
def cid (r : Fin 24) (l : Fin 128) : BitVec 32 := if h : l.val < 64 then A.cand r ⟨l.val, h⟩ else 0#32

/-- Every candidate, read signed, is below the vocabulary. -/
def CandOk : Prop := ∀ r j, (A.cand r j).toInt < 128256

/-- What the scratch holds after the first `T` tiles. -/
structure Scr (T : Nat) (kK : Vec Ideal S32x3072 .fp8e4m3) (kX kG : Vec Ideal S24x1 .f32) (kC : Vec Ideal S24x128 .i32)
    (kM kS kL : Vec Ideal S24x128 .f32) (kW : Vec Ideal S24x128 .i32) : Prop where
  /-- The codes. -/
  codes : ∀ (r : Fin 24) (k : Fin 3072), kK (ix2 ⟨r.val, by have := r.isLt; omega⟩ k) = A.code r k
  /-- The scales. -/
  scale : ∀ r : Fin 24, kX (ix2 r 0) = A.scale r
  /-- The gains. -/
  gain : ∀ r : Fin 24, kG (ix2 r 0) = A.gain r
  /-- The candidates. -/
  cand : ∀ (r : Fin 24) (l : Fin 128), kC (ix2 r l) = cid A r l
  /-- A lane's shift and its sum of exponentials at that shift. -/
  sum : ∀ (r : Fin 24) (l : Fin 128), ∃ μ : ℝ, kM (ix2 r l) = (μ : EReal) ∧ kS (ix2 r l) = ((A.lane r l.val (16 * T) μ : ℝ) : EReal)
  /-- The logits of the candidates seen. -/
  logit : ∀ (r : Fin 24) (l : Fin 128), kL (ix2 r l) = if (cid A r l).toNat < 2048 * T then A.lg r (cid A r l).toNat else 0
  /-- The mask words of the candidates seen. -/
  word : ∀ (r : Fin 24) (l : Fin 128), kW (ix2 r l)
    = if (cid A r l).toNat < 4096 * ((T + 1) / 2) then A.bits r ((cid A r l).toNat / 32) else 0#32

/-- What tile `t` of the inputs holds, inside the arrays. -/
structure TileIn (t : Nat) (x2 : Vec Ideal S3072x2048 .fp8e4m3) (x3 : Vec Ideal S1x2048 .f32) (x4 : Vec Ideal S24x128 .i32) : Prop where
  /-- Weights. -/
  w : ∀ (k : Fin 3072) (l : Fin 2048), 2048 * t + l.val < 128256 → x2 (ix2 k l) = A.w k (2048 * t + l.val)
  /-- Columns' scales. -/
  ws : ∀ l : Fin 2048, 2048 * t + l.val < 128256 → x3 (ix2 0 l) = A.ws (2048 * t + l.val)
  /-- Mask words of the pair of tiles. -/
  bits : ∀ (r : Fin 24) (i : Fin 128), 128 * (t / 2) + i.val < 4008 → x4 (ix2 r i) = A.bits r (128 * (t / 2) + i.val)

variable {A}

/-- The named constant. -/
theorem inv_cap : (Named.named κ "inv_cap" 0x3D088889#32 : Ideal .f32) = (((1 / 30 : ℝ) : ℝ) : EReal) :=
  IdealRules.named_const.ideal_named_scalar _ _ _ _ rfl

/-- The tile of logits, inside the vocabulary. -/
theorem tile_lg {T : Nat} {kK kX kG kC kM kS kL kW} (S : Scr A T kK kX kG kC kM kS kL kW) {t : Nat} {x2 x3 x4} (I : TileIn A t x2 x3 x4)
    (r : Fin 24) (l : Fin 2048) (h : 2048 * t + l.val < 128256) :
    k0_pay20 (F := Ideal) kK x2 kX x3 kG (ix2 r l) = A.lg r (2048 * t + l.val) := by
  pointwise [k0_pay20]
  rw [inv_cap, S.scale, S.gain, I.ws l h]
  unfold Args.lg
  congr 5
  refine Finset.sum_congr rfl fun k _ => ?_
  rw [I.w k l h]
  exact congrArg (· * _) (S.codes r k)

/-- The word index of a lane, at an even and at an odd tile. -/
theorem widx_apply (t : Fin 63) (r : Fin 24) (l : Fin 128) :
    widx (BitVec.ofNat 32 t.val) (ix2 r l) = BitVec.ofNat 32 (64 * (t.val % 2) + l.val / 32) := by
  pointwise [widx, k0_pay22]
  revert t l
  decide +kernel

/-- A chunk's word index, wrapped. -/
theorem word_index : ∀ (p : Fin 2) (l : Fin 128) (c : Fin 16),
    (Scalar.select (IntOp.cmpi .slt (IntOp.addi (BitVec.ofNat 32 (64 * p.val + l.val / 32)) (BitVec.ofNat 32 (4 * c.val))) 0#32)
      (IntOp.addi (IntOp.addi (BitVec.ofNat 32 (64 * p.val + l.val / 32)) (BitVec.ofNat 32 (4 * c.val))) 128#32)
      (IntOp.addi (BitVec.ofNat 32 (64 * p.val + l.val / 32)) (BitVec.ofNat 32 (4 * c.val)))).toNat % 128 = 64 * p.val + l.val / 32 + 4 * c.val := by
  decide +kernel

/-- Whether a chunk lies in the vocabulary. -/
theorem chunk_ok : ∀ (t : Fin 63) (c : Fin 16),
    Scalar.cmpi .slt (Scalar.addi (Scalar.muli (BitVec.ofNat 32 t.val) 16#32) (BitVec.ofNat 32 c.val)) 1002#32 = BitVec.ofBool (decide (16 * t.val + c.val < 1002)) := by
  decide +kernel

/-- The number of a chunk. -/
theorem chunk_no : ∀ (t : Fin 63) (c : Fin 16),
    Scalar.addi (Scalar.muli (BitVec.ofNat 32 t.val) 16#32) (BitVec.ofNat 32 c.val) = BitVec.ofNat 32 (16 * t.val + c.val) := by
  decide +kernel

/-- The number of a pair of tiles. -/
theorem pair_no : ∀ t : Fin 63,
    Scalar.select (Scalar.andi (Scalar.cmpi .ne (Scalar.subi (Scalar.extui (Scalar.cmpi .sgt (BitVec.ofNat 32 t.val) 0#32)) (Scalar.extui (Scalar.cmpi .slt (BitVec.ofNat 32 t.val) 0#32))) 1#32) (Scalar.cmpi .ne (Scalar.remsi (BitVec.ofNat 32 t.val) 2#32) 0#32))
      (Scalar.subi (Scalar.divsi (BitVec.ofNat 32 t.val) 2#32) 1#32) (Scalar.divsi (BitVec.ofNat 32 t.val) 2#32) = BitVec.ofNat 32 (t.val / 2) := by
  decide +kernel

/-- The mask of a chunk is the column's. -/
theorem okV_apply {t : Fin 63} {x2 x3 x4} (I : TileIn A t.val x2 x3 x4) (c : Fin 16) (r : Fin 24) (l : Fin 128) :
    okV (F := Ideal) (BitVec.ofNat 32 t.val) x4 c (ix2 r l) = BitVec.ofBool (decide (A.ok r (128 * (16 * t.val + c.val) + l.val))) := by
  have hl := l.isLt
  have hc := c.isLt
  have ht := t.isLt
  pointwise [okV, k0_pay21]
  simp only [widx_apply, chunk_ok, bit_mask, WordCmp.andi_ofBool]
  congr 1
  by_cases hv : 16 * t.val + c.val < 1002
  · rw [decide_eq_true hv, Bool.and_true]
    have e : x4 (ix2 r ⟨64 * (t.val % 2) + l.val / 32 + 4 * c.val, by omega⟩) = A.bits r ((128 * (16 * t.val + c.val) + l.val) / 32) := by
      rw [I.bits r _ (by simp only; omega)]
      congr 1
      simp only
      omega
    have e2 := word_index ⟨t.val % 2, Nat.mod_lt _ (by norm_num)⟩ l c
    simp only at e2
    simp only [e2, e]
    rw [Bool.eq_iff_iff, decide_eq_true_iff]
    unfold Args.ok
    rw [show (128 * (16 * t.val + c.val) + l.val) % 32 = l.val % 32 by omega]
    constructor
    · intro h; exact ⟨by omega, h⟩
    · intro h; exact h.2
  · rw [decide_eq_false hv, Bool.and_false, decide_eq_false]
    intro h
    have := h.1
    omega

/-- A chunk of the logits, inside the vocabulary. -/
theorem lgV_apply {T : Nat} {kK kX kG kC kM kS kL kW} (S : Scr A T kK kX kG kC kM kS kL kW) {t : Fin 63} {x2 x3 x4} (I : TileIn A t.val x2 x3 x4)
    (c : Fin 16) (r : Fin 24) (l : Fin 128) (h : 128 * (16 * t.val + c.val) + l.val < 128256) :
    lgV (k0_pay20 (F := Ideal) kK x2 kX x3 kG) c (ix2 r l) = A.lg r (128 * (16 * t.val + c.val) + l.val) := by
  have hl := l.isLt
  have hc := c.isLt
  pointwise [lgV]
  rw [tile_lg S I r _ (by simp only; omega)]
  congr 1
  simp only
  omega

/-- A chunk of the masked logits. -/
theorem mskV_apply (hT : A.TempOk) {T : Nat} {kK kX kG kC kM kS kL kW} (S : Scr A T kK kX kG kC kM kS kL kW) {t : Fin 63} {x2 x3 x4} (I : TileIn A t.val x2 x3 x4)
    (c : Fin 16) (r : Fin 24) (l : Fin 128) :
    mskV (BitVec.ofNat 32 t.val) (k0_pay20 (F := Ideal) kK x2 kX x3 kG) x4 c (ix2 r l)
      = if A.ok r (128 * (16 * t.val + c.val) + l.val) then (((A.lg r (128 * (16 * t.val + c.val) + l.val)).toReal : ℝ) : EReal) else ⊥ := by
  show Scalar.select (okV (F := Ideal) (BitVec.ofNat 32 t.val) x4 c (ix2 r l)) (lgV (k0_pay20 (F := Ideal) kK x2 kX x3 kG) c (ix2 r l)) (Ideal.ofBits .f32 0xFF800000#32) = _
  rw [okV_apply I, WordCmp.select_decide, ofBits_ninf]
  by_cases h : A.ok r (128 * (16 * t.val + c.val) + l.val)
  · rw [if_pos h, if_pos h, lgV_apply S I c r l h.1, ← Args.lg_real hT]
  · rw [if_neg h, if_neg h]

/-- The stored logits, inside the vocabulary. -/
theorem stoS_apply {T : Nat} {kK kX kG kC kM kS kL kW} (S : Scr A T kK kX kG kC kM kS kL kW) {t : Fin 63} {x2 x3 x4} (I : TileIn A t.val x2 x3 x4)
    (r : Fin 24) (v : Fin 2048) (hv : 2048 * t.val + v.val < 128256) :
    stoS (BitVec.ofNat 32 t.val) (k0_pay20 (F := Ideal) kK x2 kX x3 kG) x4 (ix3 r 0 v) = A.out r (2048 * t.val + v.val) := by
  have hvl := v.isLt
  have key : ∀ (c : Fin 16) (l : Fin 128), 128 * (16 * t.val + c.val) + l.val < 128256 →
      stoV (BitVec.ofNat 32 t.val) (k0_pay20 (F := Ideal) kK x2 kX x3 kG) x4 c (ix3 r 0 l) = A.out r (128 * (16 * t.val + c.val) + l.val) := by
    intro c l h
    pointwise [stoV]
    rw [okV_apply I, WordCmp.select_decide, lgV_apply S I c r l h]
    rfl
  have e : 2048 * t.val + v.val = 128 * (16 * t.val + v.val / 128) + v.val % 128 := by omega
  have := key ⟨v.val / 128, by omega⟩ ⟨v.val % 128, Nat.mod_lt _ (by norm_num)⟩ (by simp only; omega)
  rw [e]
  refine Eq.trans ?_ this
  unfold stoS
  refine congrArg _ (funext fun a => ?_)
  match a with
  | 0 => rfl
  | 1 => rfl
  | 2 => rfl

/-- The candidates' logits after one more chunk. -/
theorem clV_step (hC : CandOk A) {T : Nat} {kK kX kG kC kM kS kL kW} (S : Scr A T kK kX kG kC kM kS kL kW) {t : Fin 63} {x2 x3 x4} (I : TileIn A t.val x2 x3 x4)
    (c : Fin 16) (r : Fin 24) (l : Fin 128) (prev : FVec Ideal S24x128 .f32)
    (hp : prev (ix2 r l) = if (cid A r l).toNat < 128 * (16 * t.val + c.val) then A.lg r (cid A r l).toNat else 0) :
    clV (BitVec.ofNat 32 t.val) (k0_pay20 (F := Ideal) kK x2 kX x3 kG) kC prev c (ix2 r l)
      = if (cid A r l).toNat < 128 * (16 * t.val + (c.val + 1)) then A.lg r (cid A r l).toNat else 0 := by
  have hl := l.isLt
  have hc := c.isLt
  have ht := t.isLt
  have hcl : (cid A r l).toNat < 128256 ∨ 2 ^ 31 ≤ (cid A r l).toNat := by
    unfold cid
    split
    · have := hC r ⟨l.val, ‹_›⟩
      have h2 := BitVec.toInt_eq_toNat_cond (A.cand r ⟨l.val, ‹_›⟩)
      split at h2 <;> omega
    · left; decide
  pointwise [clV, lgV]
  rw [hp]
  simp only [S.cand, wrap127, and127, chunk_no]
  rw [WordCmp.cmpi_eq_eq, WordCmp.select_decide, if_congr (shr7_iff (cid A r l) _ (by omega)) rfl rfl]
  by_cases h : (cid A r l).toNat / 128 = 16 * t.val + c.val
  · rw [if_pos h, if_pos (by omega), tile_lg S I r _ (by simp only; omega)]
    congr 1
    simp only
    omega
  · rw [if_neg h]
    exact if_congr (by omega) rfl rfl

/-- The candidates' logits after the tile. -/
theorem clS_apply (hC : CandOk A) {kK kX kG kC kM kS kL kW} {t : Fin 63} (S : Scr A t.val kK kX kG kC kM kS kL kW) {x2 x3 x4} (I : TileIn A t.val x2 x3 x4)
    (r : Fin 24) (l : Fin 128) :
    clS (BitVec.ofNat 32 t.val) (k0_pay20 (F := Ideal) kK x2 kX x3 kG) kC kL (ix2 r l)
      = if (cid A r l).toNat < 2048 * (t.val + 1) then A.lg r (cid A r l).toNat else 0 := by
  have st := fun c prev hp => clV_step hC S I c r l prev hp
  have h0 : kL (ix2 r l) = if (cid A r l).toNat < 128 * (16 * t.val + (0 : Fin 16).val) then A.lg r (cid A r l).toNat else 0 := by
    rw [S.logit]; exact if_congr (by show _ ↔ _ < 128 * (16 * t.val + 0); omega) rfl rfl
  refine (st 15 _ (st 14 _ (st 13 _ (st 12 _ (st 11 _ (st 10 _ (st 9 _ (st 8 _ (st 7 _ (st 6 _ (st 5 _ (st 4 _ (st 3 _ (st 2 _ (st 1 _ (st 0 _ h0)))))))))))))))).trans ?_
  exact if_congr (by show _ < 128 * (16 * t.val + (15 + 1)) ↔ _; omega) rfl rfl

/-- The candidates' words after the tile. -/
theorem cwS_apply (hC : CandOk A) {kK kX kG kC kM kS kL kW} {t : Fin 63} (S : Scr A t.val kK kX kG kC kM kS kL kW) {x2 x3 x4} (I : TileIn A t.val x2 x3 x4)
    (r : Fin 24) (l : Fin 128) :
    cwS (F := Ideal) (BitVec.ofNat 32 t.val) x4 kC kW (ix2 r l)
      = if (cid A r l).toNat < 4096 * ((t.val + 1 + 1) / 2) then A.bits r ((cid A r l).toNat / 32) else 0#32 := by
  have ht := t.isLt
  have hcl : (cid A r l).toNat < 128256 ∨ 2 ^ 31 ≤ (cid A r l).toNat := by
    unfold cid
    split
    · have := hC r ⟨l.val, ‹_›⟩
      have h2 := BitVec.toInt_eq_toNat_cond (A.cand r ⟨l.val, ‹_›⟩)
      split at h2 <;> omega
    · left; decide
  pointwise [cwS, cwA, cwB]
  simp only [S.cand, S.word, wrap127, and127, pair_no]
  rw [WordCmp.cmpi_eq_eq, WordCmp.select_decide, if_congr (shr12_iff (cid A r l) _ (by omega)) rfl rfl]
  by_cases h : (cid A r l).toNat / 4096 = t.val / 2
  · rw [if_pos h, if_pos (by omega)]
    have e : IntOp.shrsi .vector (cid A r l) 5#32 = BitVec.ofNat 32 ((cid A r l).toNat / 32) := (shr5_iff (cid A r l) _ (by omega)).2 rfl
    have e2 : (IntOp.shrsi .vector (cid A r l) 5#32).toNat = (cid A r l).toNat / 32 := by rw [e, BitVec.toNat_ofNat]; omega
    simp only [e2]
    rw [I.bits r _ (by simp only; omega)]
    congr 1
    simp only
    omega
  · rw [if_neg h]
    exact if_congr (by omega) rfl rfl

/-- A maximum of a real and a masked real. -/
theorem max_mask (q : ℝ) (p : Prop) [Decidable p] (a : ℝ) :
    max (q : EReal) (if p then (a : EReal) else ⊥) = ((if p then max q a else q : ℝ) : EReal) := by
  split
  · rcases le_total q a with h | h
    · rw [max_eq_right h, max_eq_right (EReal.coe_le_coe_iff.2 h)]
    · rw [max_eq_left h, max_eq_left (EReal.coe_le_coe_iff.2 h)]
  · exact max_bot_right _

/-- The exponential of a masked real, shifted. -/
theorem exp_mask (q : ℝ) (p : Prop) [Decidable p] (a : ℝ) :
    Ideal.exp ((if p then (a : EReal) else ⊥) - (q : EReal)) = ((if p then Real.exp (a - q) else 0 : ℝ) : EReal) := by
  split
  · rw [← EReal.coe_sub]; rfl
  · rw [EReal.bot_sub]; exact EReal.coe_zero.symm

/-- Shifting a lane's sum. -/
theorem lane_shift (r : Fin 24) (l C : Nat) (μ q : ℝ) : A.lane r l C μ * Real.exp (μ - q) = A.lane r l C q := by
  unfold Args.lane
  rw [Finset.sum_mul]
  refine Finset.sum_congr rfl fun c _ => ?_
  split
  · rw [← Real.exp_add]; congr 1; ring
  · rw [zero_mul]

/-- The running maximum and the running sum after the tile. -/
theorem sum_apply (hT : A.TempOk) {kK kX kG kC kM kS kL kW} {t : Fin 63} (S : Scr A t.val kK kX kG kC kM kS kL kW) {x2 x3 x4} (I : TileIn A t.val x2 x3 x4)
    (r : Fin 24) (l : Fin 128) :
    ∃ μ : ℝ, mxS (BitVec.ofNat 32 t.val) (k0_pay20 (F := Ideal) kK x2 kX x3 kG) x4 kM (ix2 r l) = (μ : EReal)
      ∧ smS (BitVec.ofNat 32 t.val) (k0_pay20 (F := Ideal) kK x2 kX x3 kG) x4 kM kS (ix2 r l) = ((A.lane r l.val (16 * (t.val + 1)) μ : ℝ) : EReal) := by
  obtain ⟨μ, hM, hS⟩ := S.sum r l
  have hm := fun c => mskV_apply hT S I c r l
  have h1 : ∃ q : ℝ, mxS (BitVec.ofNat 32 t.val) (k0_pay20 (F := Ideal) kK x2 kX x3 kG) x4 kM (ix2 r l) = (q : EReal) := by
    pointwise [mxS, k0_pay124]
    simp only [hm, hM, max_mask]
    exact ⟨_, rfl⟩
  obtain ⟨q, hq⟩ := h1
  refine ⟨q, hq, ?_⟩
  have hq' := hq
  unfold mxS at hq'
  pointwise [smS, k0_pay126, k0_pay125]
  rw [hq, hq']
  simp only [hm, hM, hS, exp_mask]
  rw [show Ideal.exp ((μ : EReal) - (q : EReal)) = ((Real.exp (μ - q) : ℝ) : EReal) by rw [← EReal.coe_sub]; rfl]
  rw [← EReal.coe_mul, lane_shift]
  simp only [← EReal.coe_add]
  congr 1
  show _ = A.lane r l.val (16 * t.val + 16) q
  unfold Args.lane
  rw [Finset.sum_range_add]
  simp only [Finset.sum_range_succ, Finset.sum_range_zero, zero_add, ← add_assoc]
  rfl

end Cert.KernelIdeal.Hand

end
-- ==== Proof.KernelIdealEnds.lean ====
/-
  The first and the last grid point of the kernel at the ideal numbers: the scratch the first point sets up is what no tile
  leaves, and the rows the last point writes are the log-sum-exp and the candidates' log-probabilities.
-/
module

public import proofs.«01_k».proof.Proof.KernelIdealLanes

@[expose] public section

noncomputable section

namespace Cert.KernelIdeal.Hand

open Cert.KernelIdeal Cert.KernelIdeal.Gen
open Cert.Head
open Idealize.ShloMosaic

set_option maxRecDepth 16384

variable {A : Args}

/-- The exponent of a row is the one counted from its bound. -/
theorem pay5_apply {x1 : Vec Ideal S24x3072 .bf16} (hx : ∀ r k, x1 (ix2 r k) = A.x r k) (r : Fin 24) :
    k0_pay5 (F := Ideal) x1 (ix2 r 0) = kexp (A.bound r) := by
  pointwise [k0_pay5, k0_pay4]
  simp only [hx]
  rfl

/-- The codes the first point computes. -/
theorem codesI_apply {x1 : Vec Ideal S24x3072 .bf16} (hx : ∀ r k, x1 (ix2 r k) = A.x r k) (r : Fin 24) (k : Fin 3072) :
    codesI (F := Ideal) x1 (ix2 ⟨r.val, by have := r.isLt; omega⟩ k) = A.code r k := by
  pointwise [codesI, k0_pay8, k0_pay7, k0_pay4]
  rw [pay5_apply hx, hx]
  rfl

/-- The scales the first point computes. -/
theorem xsI_apply {x1 : Vec Ideal S24x3072 .bf16} (hx : ∀ r k, x1 (ix2 r k) = A.x r k) (r : Fin 24) :
    xsI (F := Ideal) x1 (ix2 r 0) = A.scale r := by
  pointwise [xsI, k0_pay9, k0_pay6]
  rw [pay5_apply hx]
  rfl

/-- The row of scales the first point writes. -/
theorem xsRow_apply {x1 : Vec Ideal S24x3072 .bf16} (hx : ∀ r k, x1 (ix2 r k) = A.x r k) (r : Fin 24) :
    k0_pay10 (F := Ideal) (xsI (F := Ideal) x1) (ix2 0 r) = A.scale r := by
  pointwise [k0_pay10]
  rw [sum_diag (fun x => xsI (F := Ideal) x1 (ix2 x 0))]
  exact xsI_apply hx r

/-- The gains the first point computes. -/
theorem gainI_apply {x5 : Vec Ideal S1x24 .f32} (hx : ∀ r, x5 (ix2 0 r) = A.temp r) (r : Fin 24) :
    gainI (F := Ideal) x5 (ix2 r 0) = A.gain r := by
  pointwise [gainI, k0_pay12, k0_pay11]
  rw [sum_diag' (fun x => x5 (ix2 0 x)), hx]
  rfl

/-- The candidates the first point lays out. -/
theorem cidI_apply {x6 : Vec Ideal S24x1x64 .i32} (hx : ∀ r j, x6 (ix3 r 0 j) = A.cand r j) (r : Fin 24) (l : Fin 128) :
    cidI (F := Ideal) x6 (ix2 r l) = cid A r l := by
  unfold cidI cid
  by_cases h : l.val < 64
  · rw [dif_pos h, dif_pos (show ((ix2 r l : S24x128.Idx) 1).val < 64 from h)]
    refine Eq.trans ?_ (hx r ⟨l.val, h⟩)
    have : k0_pay14 (F := Ideal) x6 (ix2 r ⟨l.val, h⟩) = x6 (ix3 r 0 ⟨l.val, h⟩) := by pointwise [k0_pay14]
    refine Eq.trans (congrArg _ (funext fun a => ?_)) this
    match a with
    | 0 => rfl
    | 1 => rfl
  · rw [dif_neg h, dif_neg (show ¬ ((ix2 r l : S24x128.Idx) 1).val < 64 from h)]

/-- The lowest finite word is a real. -/
theorem lowest_real : ∃ q : ℝ, Ideal.ofBits .f32 0xFF7FFFFF#32 = (q : EReal) := by
  have b : ((0xFF7FFFFF#32).extractLsb' 23 8).toNat = 254 := by decide
  simp only [Ideal.ofBits, Ideal.ieee]
  rw [b, if_neg (by norm_num), if_neg (by norm_num)]
  exact ⟨_, rfl⟩

/-- The scratch the first point sets up is what no tile leaves. -/
theorem scr_init {x1 : Vec Ideal S24x3072 .bf16} {x5 : Vec Ideal S1x24 .f32} {x6 : Vec Ideal S24x1x64 .i32}
    (hx : ∀ r k, x1 (ix2 r k) = A.x r k) (ht : ∀ r, x5 (ix2 0 r) = A.temp r) (hc : ∀ r j, x6 (ix3 r 0 j) = A.cand r j) :
    Scr A 0 (codesI x1) (xsI x1) (gainI x5) (cidI (F := Ideal) x6) (k0_pay15 (F := Ideal)) (k0_pay16 (F := Ideal)) (k0_pay17 (F := Ideal)) cwI where
  codes := codesI_apply hx
  scale := xsI_apply hx
  gain := gainI_apply ht
  cand := cidI_apply hc
  sum r l := by
    obtain ⟨q, hq⟩ := lowest_real
    refine ⟨q, ?_, ?_⟩
    · pointwise [k0_pay15]; exact hq
    · pointwise [k0_pay16]
      unfold Args.lane
      simp
  logit r l := by
    pointwise [k0_pay17]
    rw [if_neg (by omega)]
  word r l := by
    rw [if_neg (by omega)]
    pointwise [cwI, k0_pay19, k0_pay18]

/-- What a tile leaves in the scratch. -/
theorem scr_step (hT : A.TempOk) (hC : CandOk A) {kK kX kG kC kM kS kL kW} {t : Fin 63} (S : Scr A t.val kK kX kG kC kM kS kL kW) {x2 x3 x4}
    (I : TileIn A t.val x2 x3 x4) :
    Scr A (t.val + 1) kK kX kG kC (mxS (BitVec.ofNat 32 t.val) (k0_pay20 (F := Ideal) kK x2 kX x3 kG) x4 kM)
      (smS (BitVec.ofNat 32 t.val) (k0_pay20 (F := Ideal) kK x2 kX x3 kG) x4 kM kS) (clS (BitVec.ofNat 32 t.val) (k0_pay20 (F := Ideal) kK x2 kX x3 kG) kC kL)
      (cwS (F := Ideal) (BitVec.ofNat 32 t.val) x4 kC kW) where
  codes := S.codes
  scale := S.scale
  gain := S.gain
  cand := S.cand
  sum := sum_apply hT S I
  logit := clS_apply hC S I
  word := cwS_apply hC S I

/-- The log-sum-exp column of the last point's scratch. -/
theorem pay1_apply {kK kX kG kC kM kS kL kW} (S : Scr A 63 kK kX kG kC kM kS kL kW) (r : Fin 24) :
    k0_pay1 (F := Ideal) kM kS (ix2 r 0) = A.lse r := by
  have h := fun l => S.sum r l
  choose μ hM hS using h
  obtain ⟨M, hm⟩ := Args.fold_max_real (Finset.univ : Finset (Fin 128)) μ Finset.univ_nonempty
  pointwise [k0_pay1]
  rw [ofBits_ninf]
  simp only [hM, hS, hm]
  rw [← Args.lse_of_lanes r μ M]
  congr 2

/-- The log-sum-exp row the last point writes. -/
theorem pay2_apply {kK kX kG kC kM kS kL kW} (S : Scr A 63 kK kX kG kC kM kS kL kW) (r : Fin 24) :
    k0_pay2 (F := Ideal) kM kS (ix2 0 r) = A.lse r := by
  pointwise [k0_pay2]
  rw [sum_diag (fun x => k0_pay1 (F := Ideal) kM kS (ix2 x 0))]
  exact pay1_apply S r

/-- The candidates' log-probabilities the last point writes. -/
theorem pay3_apply (hC : CandOk A) {kK kX kG kC kM kS kL kW} (S : Scr A 63 kK kX kG kC kM kS kL kW) (r : Fin 24) (j : Fin 64) :
    k0_pay3 (F := Ideal) kC kL kM kS kW (ix3 r 0 j) = A.lp r j := by
  have hj := j.isLt
  pointwise [k0_pay3]
  rw [pay1_apply S, S.cand, S.logit, S.word, bit_shift _ _ (by rw [and31]; omega), and31, WordCmp.select_ofBool]
  have e : cid A r ⟨j.val, by omega⟩ = A.cand r j := by
    unfold cid; rw [dif_pos (show (⟨j.val, _⟩ : Fin 128).val < 64 from hj)]
  rw [e]
  unfold Args.lp
  have hcl : (A.cand r j).toNat < 128256 ∨ 2 ^ 31 ≤ (A.cand r j).toNat := by
    have := hC r j
    have h2 := BitVec.toInt_eq_toNat_cond (A.cand r j)
    split at h2 <;> omega
  rcases hcl with h | h
  · rw [if_pos (show (A.cand r j).toNat < 2048 * 63 by omega), if_pos (show (A.cand r j).toNat < 4096 * ((63 + 1) / 2) by omega)]
    exact if_congr ⟨fun h2 => ⟨h, h2⟩, fun h2 => h2.2⟩ rfl rfl
  · rw [if_neg (show ¬ (A.cand r j).toNat < 4096 * ((63 + 1) / 2) by omega), if_neg (show ¬ A.ok r (A.cand r j).toNat from fun h2 => by have := h2.1; omega)]
    simp

end Cert.KernelIdeal.Hand

end
-- ==== Proof.KernelIdealTile.lean ====
/-
  One run of the kernel's body at the ideal numbers: what it leaves, from what it finds, in the head's closed forms.
-/
module

public import proofs.«01_k».proof.Proof.KernelIdealEnds

@[expose] public section

noncomputable section

namespace Cert.KernelIdeal.Hand

open Cert.KernelIdeal Cert.KernelIdeal.Gen
open Cert.Head
open Idealize.ShloMosaic

set_option maxRecDepth 16384

variable (A : Args)

/-- The tile of logits at point `t`, inside the vocabulary. -/
def LgAt (t : Nat) (X : Vec Ideal S24x1x2048 .f32) : Prop :=
  ∀ (r : Fin 24) (v : Fin 2048), 2048 * t + v.val < 128256 → X (ix3 r 0 v) = A.out r (2048 * t + v.val)

/-- The row of log-sum-exps. -/
def LseAt (X : Vec Ideal S1x24 .f32) : Prop := ∀ r : Fin 24, X (ix2 0 r) = A.lse r

/-- The candidates' log-probabilities. -/
def CandAt (X : Vec Ideal S24x1x64 .f32) : Prop := ∀ (r : Fin 24) (j : Fin 64), X (ix3 r 0 j) = A.lp r j

/-- The codes. -/
def CodesAt (X : Vec Ideal S24x3072 .fp8e4m3) : Prop := ∀ (r : Fin 24) (k : Fin 3072), X (ix2 r k) = A.code r k

/-- The row of scales. -/
def ScalesAt (X : Vec Ideal S1x24 .f32) : Prop := ∀ r : Fin 24, X (ix2 0 r) = A.scale r

/-- What the first point finds in the inputs it reads once. -/
structure FirstIn (x1 : Vec Ideal S24x3072 .bf16) (x5 : Vec Ideal S1x24 .f32) (x6 : Vec Ideal S24x1x64 .i32) : Prop where
  /-- Activations. -/
  x : ∀ r k, x1 (ix2 r k) = A.x r k
  /-- Temperatures. -/
  t : ∀ r, x5 (ix2 0 r) = A.temp r
  /-- Candidates. -/
  c : ∀ r j, x6 (ix3 r 0 j) = A.cand r j

/-- What a run leaves at point `t`. -/
structure LeftOk (t : Nat) (R : Left Ideal) : Prop where
  /-- Logits. -/
  lg : LgAt A t R.lg
  /-- Log-sum-exps, at the last point. -/
  lse : t = 62 → LseAt A R.lse
  /-- Candidates, at the last point. -/
  cand : t = 62 → CandAt A R.cand
  /-- Codes. -/
  codes : CodesAt A R.codes
  /-- Scales. -/
  xs : ScalesAt A R.xs
  /-- The scratch. -/
  scr : Scr A (t + 1) R.kK R.kX R.kG R.kC R.kM R.kS R.kL R.kW

variable {A}

/-- A tile, from a scratch that holds what the tiles before it leave. -/
theorem tile_ok (hT : A.TempOk) (hC : CandOk A) (t : Fin 63) {last : Bool} (hl : last = decide (t.val = 62)) {x2 x3 x4 y8 y9 y10 y11 kK kX kG kC kM kS kL kW}
    (S : Scr A t.val kK kX kG kC kM kS kL kW) (I : TileIn A t.val x2 x3 x4) (h10 : CodesAt A y10) (h11 : ScalesAt A y11) :
    LeftOk A t.val (tile (F := Ideal) (BitVec.ofNat 32 t.val) last x2 x3 x4 y8 y9 y10 y11 kK kX kG kC kM kS kL kW) := by
  have N := scr_step hT hC S I
  refine ⟨fun r v hv => stoS_apply S I r v hv, fun h => ?_, fun h => ?_, h10, h11, N⟩
  · rw [decide_eq_true h] at hl
    rw [show t.val + 1 = 63 by omega] at N
    subst hl
    exact fun r => pay2_apply N r
  · rw [decide_eq_true h] at hl
    rw [show t.val + 1 = 63 by omega] at N
    subst hl
    exact fun r j => pay3_apply hC N r j

/-- A run at point `t`. -/
theorem run_ok (hT : A.TempOk) (hC : CandOk A) (t : Fin 63) {first last : Bool} (hf : first = decide (t.val = 0)) (hl : last = decide (t.val = 62))
    {x1 x2 x3 x4 x5 x6 y8 y9 y10 y11 kK kX kG kC kM kS kL kW} (h0 : t.val = 0 → FirstIn A x1 x5 x6) (I : TileIn A t.val x2 x3 x4)
    (S : t.val ≠ 0 → Scr A t.val kK kX kG kC kM kS kL kW) (h10 : t.val ≠ 0 → CodesAt A y10) (h11 : t.val ≠ 0 → ScalesAt A y11) :
    LeftOk A t.val (run (F := Ideal) first last (BitVec.ofNat 32 t.val) x1 x2 x3 x4 x5 x6 y8 y9 y10 y11 kK kX kG kC kM kS kL kW) := by
  by_cases h : t.val = 0
  · rw [decide_eq_true h] at hf
    subst hf
    have J := h0 h
    have S0 := scr_init J.x J.t J.c
    rw [← h] at S0
    exact tile_ok hT hC t hl S0 I (fun r k => codesI_apply J.x r k) (fun r => xsRow_apply J.x r)
  · rw [decide_eq_false h] at hf
    subst hf
    exact tile_ok hT hC t hl (S h) I (h10 h) (h11 h)

end Cert.KernelIdeal.Hand

end
-- ==== Proof.Arrays.lean ====
/-
  The arguments by coordinates, from the argument arrays.
-/
module

public import proofs.«01_k».proof.Proof.Spec
public import Idealize.ShloMosaic.Lib.Pointwise

@[expose] public section

noncomputable section

namespace Cert.Head

open Idealize.ShloMosaic

/-- The arguments of the six argument arrays; past an array's end the value is zero. -/
def argsOf (a0 : Vec Ideal ⟨3, ![24, 1, 3072]⟩ .bf16) (a1 : Vec Ideal ⟨2, ![3072, 128256]⟩ .fp8e4m3) (a2 : Vec Ideal ⟨1, ![128256]⟩ .f32)
    (a3 : Vec Ideal ⟨2, ![24, 4008]⟩ .i32) (a4 : Vec Ideal ⟨1, ![24]⟩ .f32) (a5 : Vec Ideal ⟨3, ![24, 1, 64]⟩ .i32) : Args where
  x r k := a0 (ix3 r 0 k)
  w k v := if h : v < 128256 then a1 (ix2 k ⟨v, h⟩) else 0
  ws v := if h : v < 128256 then a2 (ix1 ⟨v, h⟩) else 0
  bits r q := if h : q < 4008 then a3 (ix2 r ⟨q, h⟩) else 0#32
  temp r := a4 (ix1 r)
  cand r j := a5 (ix3 r 0 j)

variable (A : Args)

/-- The array of stored logits. -/
def outArr : Vec Ideal ⟨3, ![24, 1, 128256]⟩ .f32 := fun i => A.out (i 0) (i 2).val

/-- The row of log-sum-exps. -/
def lseArr : Vec Ideal ⟨2, ![1, 24]⟩ .f32 := fun i => A.lse (i 1)

/-- The array of the candidates' log-probabilities. -/
def lpArr : Vec Ideal ⟨3, ![24, 1, 64]⟩ .f32 := fun i => A.lp (i 0) (i 2)

/-- The array of codes. -/
def codeArr : Vec Ideal ⟨2, ![24, 3072]⟩ .fp8e4m3 := fun i => A.code (i 0) (i 1)

/-- The row of scales. -/
def scaleArr : Vec Ideal ⟨2, ![1, 24]⟩ .f32 := fun i => A.scale (i 1)

end Cert.Head

end
-- ==== Proof.KernelIdealIn.lean ====
/-
  What the kernel's body finds in its input buffers, as the argument arrays' elements: relational proof data that say what each
  point leaves in the outputs, and the scratch's contents point by point.
-/
module

public import proofs.«01_k».proof.Proof.Gen.KernelIdeal.Frame
public import proofs.«01_k».proof.Proof.KernelIdealTile
public import proofs.«01_k».proof.Proof.Arrays
public import Idealize.ShloMosaic.Lib.Pipeline.Frame
public import Idealize.ShloMosaic.Lib.Pipeline.Value
public import Idealize.ShloMosaic.Lib.Pipeline.ValueKit.Geometry
public import Idealize.ShloMosaic.Lib.Claim
public import Idealize.ShloMosaic.Lib.Tactic.CleanTypes
public import Idealize.ShloMosaic.Lib.Tactic
public import Idealize.ShloMosaic.Lib.Pointwise

@[expose] public section

set_option maxRecDepth 16384

noncomputable section

namespace Cert.KernelIdeal.Hand

open Cert.KernelIdeal Cert.KernelIdeal.Gen
open Cert.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ)

/-- The arguments on a core. -/
def argsK (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The activations as the region finds them. -/
theorem V_v0 (c : Dev nD) (r : Fin 24) (k : Fin 3072) : V (F := Ideal) m c main_v0 (ix2 r k) = (argsK m c).x r k := by
  unfold_abbrev_sides
  after_results
  clean_types
  pointwise

/-- The columns' scales as the region finds them. -/
theorem V_v1 (c : Dev nD) (v : Fin 128256) : V (F := Ideal) m c main_v1 (ix2 0 v) = (argsK m c).ws v.val := by
  unfold_abbrev_sides
  after_results
  clean_types
  pointwise

/-- The temperatures as the region finds them. -/
theorem V_v2 (c : Dev nD) (r : Fin 24) : V (F := Ideal) m c main_v2 (ix2 0 r) = (argsK m c).temp r := by
  unfold_abbrev_sides
  after_results
  clean_types
  pointwise

/-- The invariant of the scratch: after the first point it holds what the tiles so far leave. -/
def Phi (c : Dev nD) (t : Nat) : sProp 𝕄 :=
  iprop(∃ (kK : Vec Ideal S32x3072 .fp8e4m3) (kX : Vec Ideal S24x1 .f32) (kG : Vec Ideal S24x1 .f32) (kC : Vec Ideal S24x128 .i32)
      (kM : Vec Ideal S24x128 .f32) (kS : Vec Ideal S24x128 .f32) (kL : Vec Ideal S24x128 .f32) (kW : Vec Ideal S24x128 .i32),
    ⌜t ≠ 0 → Scr (argsK m c) t kK kX kG kC kM kS kL kW⌝
    ∗ (owns (c : Thread nD τ) (Memref.whole cc0_scratch0) fullShare kK ∗ owns (c : Thread nD τ) (Memref.whole cc0_scratch1) fullShare kX
      ∗ owns (c : Thread nD τ) (Memref.whole cc0_scratch2) fullShare kG ∗ owns (c : Thread nD τ) (Memref.whole cc0_scratch3) fullShare kC
      ∗ owns (c : Thread nD τ) (Memref.whole cc0_scratch4) fullShare kM ∗ owns (c : Thread nD τ) (Memref.whole cc0_scratch5) fullShare kS
      ∗ owns (c : Thread nD τ) (Memref.whole cc0_scratch6) fullShare kL ∗ owns (c : Thread nD τ) (Memref.whole cc0_scratch7) fullShare kW)
    ∗ (∃ r, prngReg c r))

/-- The proof data: an input is left as found; the outputs hold the head's closed forms, the row of log-sum-exps and the
    candidates' at the last point. -/
def rdatsV (c : Dev nD) : RDat τ (Elt Ideal) Unit ℕ (UR sig nD τ) ℕ cfg0 c where
  A w := V m c (Pipeline.arrRef spec0 w)
  after w t Y X := match w with
    | 0 | 1 | 2 | 3 | 4 | 5 => X = Y
    | 6 => LgAt (argsK m c) t.val X
    | 7 => t.val = 62 → LseAt (argsK m c) X
    | 8 => t.val = 62 → CandAt (argsK m c) X
    | 9 => CodesAt (argsK m c) X
    | 10 => ScalesAt (argsK m c) X
    | _ => True
  Φ t := Phi m c t.val
  q _ := fullShare
  owed _ := 0

/-- Where window 1's blocks lie. -/
theorem win1 : ∀ t : Fin 63, win0_1.index t 0 = 0 ∧ win0_1.index t 1 = t.val ∧ win0_1.xsize (grid0.coords t) 0 = 3072
    ∧ win0_1.xsize (grid0.coords t) 1 = min 2048 (128256 - 2048 * t.val) := by decide +kernel

/-- Where window 2's blocks lie. -/
theorem win2 : ∀ t : Fin 63, win0_2.index t 0 = 0 ∧ win0_2.index t 1 = t.val ∧ win0_2.xsize (grid0.coords t) 0 = 1
    ∧ win0_2.xsize (grid0.coords t) 1 = min 2048 (128256 - 2048 * t.val) := by decide +kernel

/-- Where window 3's blocks lie. -/
theorem win3 : ∀ t : Fin 63, win0_3.index t 0 = 0 ∧ win0_3.index t 1 = t.val / 2 ∧ win0_3.xsize (grid0.coords t) 0 = 24
    ∧ win0_3.xsize (grid0.coords t) 1 = min 128 (4008 - 128 * (t.val / 2)) := by decide +kernel

/-- Window 3 is fetched at the even points. -/
theorem fetch3 : ∀ t : Fin grid0.N, win0_3.fetch t = decide (t.val % 2 = 0) := by decide +kernel

/-- Where the blocks of the windows fetched once lie. -/
theorem win045 : ∀ t : Fin 63, win0_0.index t 0 = 0 ∧ win0_0.index t 1 = 0 ∧ win0_4.index t 0 = 0 ∧ win0_4.index t 1 = 0
    ∧ win0_5.index t 0 = 0 ∧ win0_5.index t 1 = 0 ∧ win0_5.index t 2 = 0 := by decide +kernel

/-- The weights a point finds. -/
theorem finds1 (c : Dev nD) (t : Fin cfg0.N) (Y) (h : (rdatsV m c).Finds 1 t Y) (k : Fin 3072) (l : Fin 2048)
    (hl : 2048 * t.val + l.val < 128256) : Y (ix2 k l) = (argsK m c).w k (2048 * t.val + l.val) := by
  obtain ⟨h0, h1, h2, h3⟩ := win1 t
  obtain ⟨d, rfl⟩ := ((rdatsV m c).finds_of_fetch (fetch0_1 t) _).1 h
  have hm : (cfg0.win 1).moved (cfg0.grid.coords t) (ix2 k l) = true := ((cfg0.win 1).moved_iff _ _).2 (fun a => by
    match a with
    | 0 => exact lt_of_lt_of_eq k.isLt h2.symm
    | 1 => exact lt_of_lt_of_eq (by have := l.isLt; show l.val < min 2048 _; omega) h3.symm)
  unfold RDat.fetched Pipeline.Window.fill
  rw [dif_pos hm]
  have e : (argsK m c).w k (2048 * t.val + l.val) = m ((c.tc : Thread nD τ).loc main_arg1) (ix2 k ⟨2048 * t.val + l.val, hl⟩) := dif_pos hl
  rw [e]
  refine Eq.trans (congrArg (V m c main_arg1) (?_ : _ = ix2 k ⟨2048 * t.val + l.val, hl⟩)) (congrFun (V_main_arg1 m c) _)
  blk_ext [h0, h1]

/-- The columns' scales a point finds. -/
theorem finds2 (c : Dev nD) (t : Fin cfg0.N) (Y) (h : (rdatsV m c).Finds 2 t Y) (l : Fin 2048)
    (hl : 2048 * t.val + l.val < 128256) : Y (ix2 0 l) = (argsK m c).ws (2048 * t.val + l.val) := by
  obtain ⟨h0, h1, h2, h3⟩ := win2 t
  obtain ⟨d, rfl⟩ := ((rdatsV m c).finds_of_fetch (fetch0_2 t) _).1 h
  have hm : (cfg0.win 2).moved (cfg0.grid.coords t) (ix2 0 l) = true := ((cfg0.win 2).moved_iff _ _).2 (fun a => by
    match a with
    | 0 => exact lt_of_lt_of_eq (by show 0 < 1; omega) h2.symm
    | 1 => exact lt_of_lt_of_eq (by have := l.isLt; show l.val < min 2048 _; omega) h3.symm)
  unfold RDat.fetched Pipeline.Window.fill
  rw [dif_pos hm]
  refine Eq.trans (congrArg (V m c main_v1) (?_ : _ = ix2 0 ⟨2048 * t.val + l.val, hl⟩)) (V_v1 m c _)
  blk_ext [h0, h1]

/-- The mask words a point fetches. -/
theorem fetched3 (c : Dev nD) (t : Fin cfg0.N) (d) (r : Fin 24) (i : Fin 128) (hl : 128 * (t.val / 2) + i.val < 4008) :
    (rdatsV m c).fetched 3 t d (ix2 r i) = (argsK m c).bits r (128 * (t.val / 2) + i.val) := by
  obtain ⟨h0, h1, h2, h3⟩ := win3 t
  have hm : (cfg0.win 3).moved (cfg0.grid.coords t) (ix2 r i) = true := ((cfg0.win 3).moved_iff _ _).2 (fun a => by
    match a with
    | 0 => exact lt_of_lt_of_eq r.isLt h2.symm
    | 1 => exact lt_of_lt_of_eq (by have := i.isLt; show i.val < min 128 _; omega) h3.symm)
  unfold RDat.fetched Pipeline.Window.fill
  rw [dif_pos hm]
  have e : (argsK m c).bits r (128 * (t.val / 2) + i.val) = m ((c.tc : Thread nD τ).loc main_arg3) (ix2 r ⟨128 * (t.val / 2) + i.val, hl⟩) := dif_pos hl
  rw [e]
  refine Eq.trans (congrArg (V m c main_arg3) (?_ : _ = ix2 r ⟨128 * (t.val / 2) + i.val, hl⟩)) (congrFun (V_main_arg3 m c) _)
  blk_ext [h0, h1]

/-- The mask words a point finds: fetched at the even points, left there by the point before at the odd ones. -/
theorem finds3 (c : Dev nD) (t : Fin cfg0.N) (Y) (h : (rdatsV m c).Finds 3 t Y) (r : Fin 24) (i : Fin 128)
    (hl : 128 * (t.val / 2) + i.val < 4008) : Y (ix2 r i) = (argsK m c).bits r (128 * (t.val / 2) + i.val) := by
  have hf := fetch3 t
  by_cases he : t.val % 2 = 0
  · obtain ⟨d, rfl⟩ := ((rdatsV m c).finds_of_fetch (show (cfg0.win 3).fetch t = true from hf.trans (decide_eq_true he)) _).1 h
    exact fetched3 m c t d r i hl
  · rcases ((rdatsV m c).finds_of_pos (show (cfg0.win 3).fetch t = false from hf.trans (decide_eq_false he)) (by omega) _).1 h with h | ⟨Y', h', rfl⟩
    · exact absurd h (by simp [Pipeline.Window.flush])
    · have hf' := fetch3 ⟨t.val - 1, by have : t.val < grid0.N := t.isLt; omega⟩
      obtain ⟨d, rfl⟩ := ((rdatsV m c).finds_of_fetch (show (cfg0.win 3).fetch ⟨t.val - 1, _⟩ = true from hf'.trans (decide_eq_true (by simp only; omega))) _).1 h'
      have e : (t.val - 1) / 2 = t.val / 2 := by omega
      rw [← e]
      exact fetched3 m c ⟨t.val - 1, _⟩ d r i (by simp only [e]; exact hl)

/-- The inputs of a tile. -/
theorem tile_in (c : Dev nD) (t : Fin cfg0.N) (Y : (w : Fin cfg0.W) → (cfg0.win w).block.Idx → Elt Ideal (cfg0.win w).elt)
    (h : ∀ w, (rdatsV m c).Finds w t (Y w)) : TileIn (argsK m c) t.val (Y 1) (Y 2) (Y 3) where
  w k l hl := finds1 m c t _ (h 1) k l hl
  ws l hl := finds2 m c t _ (h 2) l hl
  bits r i hl := finds3 m c t _ (h 3) r i hl

/-- The inputs the first point reads. -/
theorem first_in (c : Dev nD) (t : Fin cfg0.N) (ht : t.val = 0) (Y : (w : Fin cfg0.W) → (cfg0.win w).block.Idx → Elt Ideal (cfg0.win w).elt)
    (h : ∀ w, (rdatsV m c).Finds w t (Y w)) : FirstIn (argsK m c) (Y 0) (Y 4) (Y 5) where
  x r k := by
    obtain ⟨h0, h1, -, -, -, -, -⟩ := win045 t
    obtain ⟨d, e⟩ := ((rdatsV m c).finds_of_fetch ((fetch0_0 t).2 (by rw [ht])) _).1 (h 0)
    rw [e]
    refine Eq.trans (congrArg (V m c main_v0) (?_ : _ = ix2 r k)) (V_v0 m c r k)
    blk_ext [h0, h1]
  t r := by
    obtain ⟨-, -, h0, h1, -, -, -⟩ := win045 t
    obtain ⟨d, e⟩ := ((rdatsV m c).finds_of_fetch ((fetch0_4 t).2 (by rw [ht])) _).1 (h 4)
    rw [e]
    refine Eq.trans (congrArg (V m c main_v2) (?_ : _ = ix2 0 r)) (V_v2 m c r)
    blk_ext [h0, h1]
  c r j := by
    obtain ⟨-, -, -, -, h0, h1, h2⟩ := win045 t
    obtain ⟨d, e⟩ := ((rdatsV m c).finds_of_fetch ((fetch0_5 t).2 (by rw [ht])) _).1 (h 5)
    rw [e]
    refine Eq.trans (congrArg (V m c main_arg5) (?_ : _ = ix3 r 0 j)) (congrFun (V_main_arg5 m c) _)
    blk_ext [h0, h1, h2]

/-- The codes a later point finds. -/
theorem finds9 (c : Dev nD) (t : Fin cfg0.N) (ht : t.val ≠ 0) (Y) (h : (rdatsV m c).Finds 9 t Y) : CodesAt (argsK m c) Y := by
  rcases ((rdatsV m c).finds_of_pos (show (cfg0.win 9).fetch t = false by simp [Pipeline.Window.fetch]) ht _).1 h with h | ⟨Y', -, h'⟩
  · have := (flush0_9 _).1 h
    have : t.val < 63 := t.isLt
    simp only at *
    omega
  · exact h'

/-- The scales a later point finds. -/
theorem finds10 (c : Dev nD) (t : Fin cfg0.N) (ht : t.val ≠ 0) (Y) (h : (rdatsV m c).Finds 10 t Y) : ScalesAt (argsK m c) Y := by
  rcases ((rdatsV m c).finds_of_pos (show (cfg0.win 10).fetch t = false by simp [Pipeline.Window.fetch]) ht _).1 h with h | ⟨Y', -, h'⟩
  · have := (flush0_10 _).1 h
    have : t.val < 63 := t.isLt
    simp only at *
    omega
  · exact h'

end Cert.KernelIdeal.Hand

end
-- ==== Proof.KernelIdealVal.lean ====
/-
  The run of `KernelIdeal` with its values: the body keeps the invariant of the scratch, and every execution of @main ends with
  the five result arrays at the head's closed forms.
-/
module

public import proofs.«01_k».proof.Proof.KernelIdealFrame
public import proofs.«01_k».proof.Proof.KernelIdealRun
public import proofs.«01_k».proof.Proof.KernelIdealIn
public import Idealize.ShloMosaic.Lib.Pipeline.ArrRel
public import Idealize.ShloMosaic.Lib.Pipeline.Covers

@[expose] public section

set_option maxRecDepth 16384

noncomputable section

namespace Cert.KernelIdeal.HandV

open Cert.KernelIdeal Cert.KernelIdeal.Gen
open Cert.KernelIdeal.Hand hiding frame
open Cert.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- The body's conditions and its grid index, at a point. -/
theorem conds : ∀ t : Fin grid0.N, decide (k0_cond1 (grid0.coords t) = 1#1) = decide (t.val = 0)
    ∧ decide (k0_cond2 (grid0.coords t) = 1#1) = decide (t.val = 62) ∧ (grid0.coords t 0).val = t.val := by decide +kernel

/-- The body at a point, from the staging buffers at `Y`. -/
theorem sound_bodyV (c : Dev nD) (hT : (argsK m c).TempOk) (hC : CandOk (argsK m c)) (t : Fin cfg0.N)
    (Y : (w : Fin cfg0.W) → (cfg0.win w).block.Idx → Elt Ideal (cfg0.win w).elt) (hY : ∀ w, (rdatsV m c).Finds w t (Y w)) :
    iprop((rdatsV m c).Φ t.castSucc ∗ (rdatsV m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10))
      ⊢ wp frame (wpE (defs₀ (F := Ideal)) Variants.none c none) Set.univ (bodyAt0 t) fun _ =>
        iprop((rdatsV m c).Φ t.succ ∗ (rdatsV m c).owesAt () t.succ
    ∗ (∃ X, ⌜(rdatsV m c).after 0 t (Y 0) X⌝ ∗ owns (c : Thread nD τ) (st0_0 t) fullShare X)
    ∗ (∃ X, ⌜(rdatsV m c).after 1 t (Y 1) X⌝ ∗ owns (c : Thread nD τ) (st0_1 t) fullShare X)
    ∗ (∃ X, ⌜(rdatsV m c).after 2 t (Y 2) X⌝ ∗ owns (c : Thread nD τ) (st0_2 t) fullShare X)
    ∗ (∃ X, ⌜(rdatsV m c).after 3 t (Y 3) X⌝ ∗ owns (c : Thread nD τ) (st0_3 t) fullShare X)
    ∗ (∃ X, ⌜(rdatsV m c).after 4 t (Y 4) X⌝ ∗ owns (c : Thread nD τ) (st0_4 t) fullShare X)
    ∗ (∃ X, ⌜(rdatsV m c).after 5 t (Y 5) X⌝ ∗ owns (c : Thread nD τ) (st0_5 t) fullShare X)
    ∗ (∃ X, ⌜(rdatsV m c).after 6 t (Y 6) X⌝ ∗ owns (c : Thread nD τ) (st0_6 t) fullShare X)
    ∗ (∃ X, ⌜(rdatsV m c).after 7 t (Y 7) X⌝ ∗ owns (c : Thread nD τ) (st0_7 t) fullShare X)
    ∗ (∃ X, ⌜(rdatsV m c).after 8 t (Y 8) X⌝ ∗ owns (c : Thread nD τ) (st0_8 t) fullShare X)
    ∗ (∃ X, ⌜(rdatsV m c).after 9 t (Y 9) X⌝ ∗ owns (c : Thread nD τ) (st0_9 t) fullShare X)
    ∗ (∃ X, ⌜(rdatsV m c).after 10 t (Y 10) X⌝ ∗ owns (c : Thread nD τ) (st0_10 t) fullShare X)) := by
  unfold bodyAt0
  rw [show (rdatsV m c).owesAt () t.succ = (rdatsV m c).owesAt () t.castSucc from rfl,
    show (rdatsV m c).Φ t.succ = Phi m c (t.val + 1) from rfl,
    show (rdatsV m c).Φ t.castSucc = Phi m c t.val from rfl]
  unfold Phi
  iintro ⟨⟨%kK, %kX, %kG, %kC, %kM, %kS, %kL, %kW, %hS, ⟨G0, G1, G2, G3, G4, G5, G6, G7⟩, Hg⟩, Ho, H1, H2, H3, H4, H5, H6, H7, H8, H9, H10, H11⟩
  obtain ⟨c1, c2, c3⟩ := conds t
  have ok : LeftOk (argsK m c) t.val (run (F := Ideal) (decide (k0_cond1 (grid0.coords t) = 1#1)) (decide (k0_cond2 (grid0.coords t) = 1#1))
      (BitVec.ofNat 32 (grid0.coords t 0).val) (Y 0) (Y 1) (Y 2) (Y 3) (Y 4) (Y 5) (Y 7) (Y 8) (Y 9) (Y 10) kK kX kG kC kM kS kL kW) := by
    rw [c3]
    exact run_ok hT hC t c1 c2 (fun h => first_in m c t h Y hY) (tile_in m c t Y hY) hS
      (fun h => finds9 m c t h _ (hY 9)) (fun h => finds10 m c t h _ (hY 10))
  generalize hR : run (F := Ideal) (decide (k0_cond1 (grid0.coords t) = 1#1)) (decide (k0_cond2 (grid0.coords t) = 1#1))
      (BitVec.ofNat 32 (grid0.coords t 0).val) (Y 0) (Y 1) (Y 2) (Y 3) (Y 4) (Y 5) (Y 7) (Y 8) (Y 9) (Y 10) kK kX kG kC kM kS kL kW = R at ok
  iapply (kernelRunV (F := Ideal) c (grid0.coords t) _ _ _ _ _ _ _ _ _ _ _ _ _ _ _ _ _ _ _ _ _ _
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Y 0) (Y 1) (Y 2) (Y 3) (Y 4) (Y 5) (Y 7) (Y 8) (Y 9) (Y 10) kK kX kG kC kM kS kL kW _ R hR.symm)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iintro ⟨H1, H2, H3, H4, H5, H6, H7, H8, H9, H10, H11, G0, G1, G2, G3, G4, G5, G6, G7⟩
  isplitl [G0 G1 G2 G3 G4 G5 G6 G7 Hg]
  · iexists R.kK; iexists R.kX; iexists R.kG; iexists R.kC; iexists R.kM; iexists R.kS; iexists R.kL; iexists R.kW
    isplitr
    · ipureintro; exact fun _ => ok.scr
    isplitl [G0 G1 G2 G3 G4 G5 G6 G7]
    · skip
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    iexact Hg
  isplitl [Ho]; · iexact Ho
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists R.lg; isplitr; swap; · iexact H7
    ipureintro; exact ok.lg
  isplitl [H8]
  · iexists R.lse; isplitr; swap; · iexact H8
    ipureintro; exact ok.lse
  isplitl [H9]
  · iexists R.cand; isplitr; swap; · iexact H9
    ipureintro; exact ok.cand
  isplitl [H10]
  · iexists R.codes; isplitr; swap; · iexact H10
    ipureintro; exact ok.codes
  iexists R.xs; isplitr; swap; · iexact H11
  ipureintro; exact ok.xs

/-- The library's body obligation. -/
theorem body_obligationV (c : Dev nD) (hT : (argsK m c).TempOk) (hC : CandOk (argsK m c)) :
    (rdatsV m c).BodyObligation (defs₀ (F := Ideal)) Variants.none () Set.univ := fun t Y hY => by
  rw [bigSep_W0, bigSep_W0, defs₀_row]
  exact triple_restated (sound_bodyV m c hT hC t Y hY) rfl .rfl fun _ => .rfl

/-- Before the first point the scratch holds anything. -/
theorem phi_in (c : Dev nD) : Pipeline.ΦA spec0 c ⊢ Phi m c 0 := by
  rw [PhiA0_eq]
  unfold Phi
  iintro ⟨⟨⟨%kK, G0⟩, ⟨%kX, G1⟩, ⟨%kG, G2⟩, ⟨%kC, G3⟩, ⟨%kM, G4⟩, ⟨%kS, G5⟩, ⟨%kL, G6⟩, ⟨%kW, G7⟩⟩, Hg⟩
  iexists kK; iexists kX; iexists kG; iexists kC; iexists kM; iexists kS; iexists kL; iexists kW
  isplitr
  · ipureintro; exact fun h => absurd rfl h
  isplitl [G0 G1 G2 G3 G4 G5 G6 G7]
  · skip
    isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  iexact Hg

/-- After the last point what the scratch holds is forgotten. -/
theorem phi_out (c : Dev nD) (t : Nat) : Phi m c t ⊢ Pipeline.ΦA spec0 c := by
  rw [PhiA0_eq]
  unfold Phi
  iintro ⟨%kK, %kX, %kG, %kC, %kM, %kS, %kL, %kW, -, ⟨G0, G1, G2, G3, G4, G5, G6, G7⟩, Hg⟩
  isplitl [G0 G1 G2 G3 G4 G5 G6 G7]
  · skip
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7
  iexact Hg

set_option backward.isDefEq.respectTransparency.types false in
/-- Every execution of @main ends with every windowed array at contents the proof data allow and every other buffer as the
    region found it. -/
theorem run_mainV (hT : ∀ c, (argsK m c).TempOk) (hC : ∀ c, CandOk (argsK m c)) :
    θ_run defs (onTc (τ := τ) (main (F := Ideal))) (s₀ m ρ) (fun r => Pipeline.RDat.FramePost (cfgs 0) (fun c => rdatsV m c) (V m) r) :=
  Pipeline.RDat.θ_run_frame_track (Q' := _) cfgs (0 : Fin 1) launch0 defs₀ Variants.none (fun c => rdatsV m c) m ρ main
    (hbody := fun c => body_obligationV m c (hT c) (hC c)) (hshare := fun c w => by unfold RDat.share; split <;> rfl)
    (howed := fun _ _ => rfl) (V := V m) (hmain := hmain m Variants.none) (hA := fun _ _ => rfl)
    (hin := fun c => phi_in m c) (hout := fun c => phi_out m c _)

/-- Where window 6's blocks lie. -/
theorem win6 : ∀ t : Fin 63, win0_6.index t 0 = 0 ∧ win0_6.index t 1 = 0 ∧ win0_6.index t 2 = t.val
    ∧ win0_6.xsize (grid0.coords t) 2 = min 2048 (128256 - 2048 * t.val) := by decide +kernel

/-- Every block of the logits is some point's. -/
theorem covers6 : (cfg0.win 6).Covers := by decide +kernel

/-- The other results are written back whole at the last point. -/
theorem whole7 : win0_7.WholeAt ⟨62, by decide⟩ := by decide +kernel
theorem whole8 : win0_8.WholeAt ⟨62, by decide⟩ := by decide +kernel
theorem whole9 : win0_9.WholeAt ⟨62, by decide⟩ := by decide +kernel
theorem whole10 : win0_10.WholeAt ⟨62, by decide⟩ := by decide +kernel

/-- Every execution of @main ends with the results at the head's closed forms and the arguments unchanged. -/
theorem run_vals (hT : ∀ c, (argsK m c).TempOk) (hC : ∀ c, CandOk (argsK m c)) :
    θ_run defs (onTc (τ := τ) (main (F := Ideal))) ⟨m, fun _ => 0, ρ⟩ (fun r => ∀ c : Dev nD,
      r.2.mem ((c.tc : Thread nD τ).loc main_v3_0) = outArr (argsK m c)
      ∧ r.2.mem ((c.tc : Thread nD τ).loc main_v3_1) = lseArr (argsK m c)
      ∧ r.2.mem ((c.tc : Thread nD τ).loc main_v3_2) = lpArr (argsK m c)
      ∧ r.2.mem ((c.tc : Thread nD τ).loc main_v3_3) = codeArr (argsK m c)
      ∧ r.2.mem ((c.tc : Thread nD τ).loc main_v3_4) = scaleArr (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := Pipeline.RDat.FramePost.exists_exact h c
    refine ⟨(hA 6).trans ?_, (hA 7).trans ?_, (hA 8).trans ?_, (hA 9).trans ?_, (hA 10).trans ?_,
      ((h c).2 main_arg0 (Pipeline.mem_restRefs_of main_arg0 (by decide) (by decide))).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 3 rfl).trans (V_main_arg3 m c),
      ((h c).2 main_arg4 (Pipeline.mem_restRefs_of main_arg4 (by decide) (by decide))).trans (V_main_arg4 m c),
      (Pipeline.RDat.FramePost.arr_in h c 5 rfl).trans (V_main_arg5 m c)⟩
    · refine Pipeline.Dat.arrAt_eq_of_covers _ 6 _ covers6 fun t hf y => ?_
      obtain ⟨_, _, h6⟩ := hL 6 t hf
      obtain ⟨i0, i1, i2, x2⟩ := win6 t
      have b0 : (y 0).val < 24 := (y 0).isLt
      have b1 : (y 1).val < 1 := (y 1).isLt
      have b2 : (y 2).val < min 2048 (128256 - 2048 * t.val) := lt_of_lt_of_eq (y 2).isLt x2
      have e0 : ((((cfg0.win 6).blk t).view.emb y) 0).val = (y 0).val := by blk_simp [i0]
      have e2 : ((((cfg0.win 6).blk t).view.emb y) 2).val = 2048 * t.val + (y 2).val := by blk_simp [i2]; omega
      refine Eq.trans (congrArg (after 6 t) (?_ : _ = ix3 ⟨(y 0).val, b0⟩ 0 ⟨(y 2).val, by omega⟩)) ((h6 _ _ (by simp only; omega)).trans ?_)
      · funext a
        match a with
        | 0 => rfl
        | 1 => exact Fin.ext (by show (y 1).val = 0; omega)
        | 2 => rfl
      · unfold outArr
        rw [e2]
        exact congrArg (fun z => Args.out _ z _) (Fin.ext e0.symm)
    · refine Pipeline.Dat.arrAt_eq_of_after_last _ 7 _ whole7 _ fun j => ?_
      obtain ⟨_, _, h7⟩ := hL 7 ⟨62, by decide⟩ whole7.1
      have b0 : (j 0).val < 1 := (j 0).isLt
      refine Eq.trans (congrArg (after 7 ⟨62, by decide⟩) (?_ : _ = ix2 0 (j 1))) (h7 rfl _)
      funext a
      match a with
      | 0 => exact Fin.ext (by show (j 0).val = 0; omega)
      | 1 => rfl
    · refine Pipeline.Dat.arrAt_eq_of_after_last _ 8 _ whole8 _ fun j => ?_
      obtain ⟨_, _, h8⟩ := hL 8 ⟨62, by decide⟩ whole8.1
      have b1 : (j 1).val < 1 := (j 1).isLt
      refine Eq.trans (congrArg (after 8 ⟨62, by decide⟩) (?_ : _ = ix3 (j 0) 0 (j 2))) (h8 rfl _ _)
      funext a
      match a with
      | 0 => rfl
      | 1 => exact Fin.ext (by show (j 1).val = 0; omega)
      | 2 => rfl
    · refine Pipeline.Dat.arrAt_eq_of_after_last _ 9 _ whole9 _ fun j => ?_
      obtain ⟨_, _, h9⟩ := hL 9 ⟨62, by decide⟩ whole9.1
      refine Eq.trans (congrArg (after 9 ⟨62, by decide⟩) (?_ : _ = ix2 (j 0) (j 1))) (h9 _ _)
      funext a
      match a with
      | 0 => rfl
      | 1 => rfl
    · refine Pipeline.Dat.arrAt_eq_of_after_last _ 10 _ whole10 _ fun j => ?_
      obtain ⟨_, _, h10⟩ := hL 10 ⟨62, by decide⟩ whole10.1
      have b0 : (j 0).val < 1 := (j 0).isLt
      refine Eq.trans (congrArg (after 10 ⟨62, by decide⟩) (?_ : _ = ix2 0 (j 1))) (h10 _)
      funext a
      match a with
      | 0 => exact Fin.ext (by show (j 0).val = 0; omega)
      | 1 => rfl) (run_mainV m ρ hT hC)

end Cert.KernelIdeal.HandV

end
-- ==== Proof.Bound.lean ====
/-
  What the launch's condition on the activations gives of a row's bound, and the reference's scale and codes from it.
-/
module

public import proofs.«01_k».proof.Proof.Spec

@[expose] public section

noncomputable section

namespace Cert.Head

open Idealize.ShloMosaic

namespace Args

variable {A : Args}

/-- Every activation is at most bfloat16's largest finite value in magnitude. -/
def XOk (A : Args) : Prop := ∀ r k, max (A.x r k) (-A.x r k) ≤ Ideal.ofBits .f32 0x7F7F0000#32

theorem ofBits_big : Ideal.ofBits .f32 0x7F7F0000#32 = ((255 * 2 ^ 120 : ℝ) : EReal) := by
  have a : ((0x7F7F0000#32).extractLsb' 31 1 == 1#1) = false := by decide
  have b : ((0x7F7F0000#32).extractLsb' 23 8).toNat = 254 := by decide
  have c : ((0x7F7F0000#32).extractLsb' 0 23).toNat = 8323072 := by decide
  simp only [Ideal.ofBits, Ideal.ieee]
  rw [show (8 + 23 : Nat) = 31 from rfl, a, b, c, if_neg (by norm_num), if_neg (by norm_num)]
  refine congrArg (fun z : ℝ => (z : EReal)) ?_
  norm_num

theorem ofBits_448 : Ideal.ofBits .f32 0x3B124925#32 = ((9586981 / 2 ^ 32 : ℝ) : EReal) := by
  have a : ((0x3B124925#32).extractLsb' 31 1 == 1#1) = false := by decide
  have b : ((0x3B124925#32).extractLsb' 23 8).toNat = 118 := by decide
  have c : ((0x3B124925#32).extractLsb' 0 23).toNat = 1198373 := by decide
  simp only [Ideal.ofBits, Ideal.ieee]
  rw [show (8 + 23 : Nat) = 31 from rfl, a, b, c, if_neg (by norm_num), if_neg (by norm_num)]
  refine congrArg (fun z : ℝ => (z : EReal)) ?_
  norm_num

/-- A magnitude is nonnegative. -/
theorem abs_nonneg' (z : EReal) : 0 ≤ max z (-z) := by
  rcases le_total 0 z with h | h
  · exact le_max_of_le_left h
  · exact le_max_of_le_right (EReal.neg_nonneg.2 h)

/-- A row's bound is a nonnegative real below `2 ^ 120`. -/
theorem bound_real (h : A.XOk) (r : Fin 24) : ∃ f : ℝ, A.bound r = f ∧ 0 ≤ f ∧ f < 2 ^ (120 : Int) := by
  unfold bound
  rw [ofBits_ninf]
  have e : ∀ k, ∃ q : ℝ, max (A.x r k) (-A.x r k) = q ∧ 0 ≤ q ∧ q ≤ 255 * 2 ^ 120 := by
    intro k
    have h1 := h r k
    have h0 := abs_nonneg' (A.x r k)
    rw [ofBits_big] at h1
    revert h0 h1
    generalize max (A.x r k) (-A.x r k) = z
    intro h1 h0
    induction z with
    | bot => exact absurd h0 (by simp)
    | top => exact absurd h1 (not_le.2 (EReal.coe_lt_top _))
    | coe q => exact ⟨q, rfl, EReal.coe_nonneg.1 h0, EReal.coe_le_coe_iff.1 h1⟩
  choose a ha h0 h1 using e
  simp only [ha]
  obtain ⟨q, hq⟩ := fold_max_real (Finset.univ : Finset (Fin 3072)) a Finset.univ_nonempty
  have b1 : Finset.fold max (⊥ : EReal) (fun i => (a i : EReal)) Finset.univ ≤ ((255 * 2 ^ 120 : ℝ) : EReal) :=
    (Finset.fold_max_le _).2 ⟨bot_le, fun i _ => EReal.coe_le_coe_iff.2 (h1 i)⟩
  have b0 : (0 : EReal) ≤ Finset.fold max (⊥ : EReal) (fun i => (a i : EReal)) Finset.univ :=
    (Finset.le_fold_max _).2 (.inr ⟨0, Finset.mem_univ _, EReal.coe_nonneg.2 (h0 0)⟩)
  rw [hq] at b0 b1 ⊢
  rw [ofBits_448, ← EReal.coe_mul]
  have b0 := EReal.coe_nonneg.1 b0
  have b1 := EReal.coe_le_coe_iff.1 b1
  refine ⟨_, rfl, by positivity, ?_⟩
  rw [show ((2 : ℝ) ^ (120 : Int)) = 2 ^ 120 from by norm_cast]
  refine lt_of_le_of_lt (mul_le_mul_of_nonneg_right b1 (by positivity)) ?_
  norm_num

/-- A finite sum of reals, taken among the extended reals. -/
theorem sum_coe {ι : Type*} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

/-- The reference's scale is the kernel's. -/
theorem rscale_eq (h : A.XOk) (r : Fin 24) : rscale (A.bound r) = A.scale r := by
  obtain ⟨f, hf, h0, h1⟩ := bound_real h r
  obtain ⟨q, k, s, _⟩ := scale_facts f h0 h1
  unfold scale
  rw [hf, k, s]

/-- Dividing by the scale is multiplying by the kernel's reciprocal. -/
theorem div_scale (h : A.XOk) (r : Fin 24) (z : EReal) : Ideal.div z (A.scale r) = z * kinv (A.bound r) := by
  obtain ⟨f, hf, h0, h1⟩ := bound_real h r
  obtain ⟨q, k, _, i⟩ := scale_facts f h0 h1
  unfold scale
  rw [hf, k, i, Ideal.div_coe (by positivity), one_div, zpow_neg]

end Args

end Cert.Head

end
-- ==== Proof.ReferenceIdealVal.lean ====
/-
  The reference's body at the ideal numbers, index by index: its five results are the head's mathematics.
-/
module

public import proofs.«01_k».proof.Proof.Gen.ReferenceIdeal.Value
public import proofs.«01_k».proof.Proof.Words
public import proofs.«01_k».proof.Proof.Bound

@[expose] public section

noncomputable section

namespace Cert.ReferenceIdeal.Hand

open Cert.ReferenceIdeal Cert.ReferenceIdeal.Gen
open Cert.Head
open Idealize.ShloMosaic

set_option maxRecDepth 16384

variable {A : Args}

/-- The reference's six input blocks are the arguments by coordinates. -/
structure In (A : Args) (x : Vec Ideal S24x3072 .bf16) (w : Vec Ideal S3072x128256 .fp8e4m3) (ws : Vec Ideal S1x128256 .f32)
    (b : Vec Ideal S24x128256 .i32) (t : Vec Ideal S24x1 .f32) (cd : Vec Ideal S24x64 .i32) : Prop where
  x : ∀ r k, x (ix2 r k) = A.x r k
  w : ∀ k (v : Fin 128256), w (ix2 k v) = A.w k v.val
  ws : ∀ v : Fin 128256, ws (ix2 0 v) = A.ws v.val
  b : ∀ r (v : Fin 128256), IntOp.cmpi .eq (b (ix2 r v)) 1#32 = BitVec.ofBool ((A.bits r (v.val / 32)).getLsbD (v.val % 32))
  t : ∀ r, t (ix2 r 0) = A.temp r
  cd : ∀ r j, cd (ix2 r j) = A.cand r j

variable {x : Vec Ideal S24x3072 .bf16} {w : Vec Ideal S3072x128256 .fp8e4m3} {ws : Vec Ideal S1x128256 .f32}
    {b : Vec Ideal S24x128256 .i32} {t : Vec Ideal S24x1 .f32} {cd : Vec Ideal S24x64 .i32}

/-- The scale. -/
theorem scale_apply (hX : A.XOk) (I : In A x w ws b t cd) (r : Fin 24) : k0_pay6 (F := Ideal) x (ix2 r 0) = A.scale r := by
  rw [← Args.rscale_eq hX]
  pointwise [k0_pay6, k0_pay5]
  simp only [I.x]
  unfold rscale
  simp only [WordCmp.select_ofBool, decide_eq_true_eq]
  rfl

/-- A code. -/
theorem code_apply (hX : A.XOk) (I : In A x w ws b t cd) (r : Fin 24) (k : Fin 3072) : k0_pay7 (F := Ideal) x (ix2 r k) = A.code r k := by
  pointwise [k0_pay7, k0_pay5]
  rw [scale_apply hX I, I.x, Args.div_scale hX]
  rfl

/-- The row of scales. -/
theorem scaleRow_apply (hX : A.XOk) (I : In A x w ws b t cd) (r : Fin 24) : k0_pay4 (F := Ideal) (k0_pay6 (F := Ideal) x) (ix2 0 r) = A.scale r := by
  pointwise [k0_pay4]
  exact scale_apply hX I r

/-- A logit. -/
theorem lg_apply (hX : A.XOk) (hT : A.TempOk) (I : In A x w ws b t cd) (r : Fin 24) (v : Fin 128256) :
    k0_pay9 (F := Ideal) (k0_pay8 (F := Ideal) x w ws) t (ix2 r v) = A.lg r v.val := by
  pointwise [k0_pay9, k0_pay8]
  simp only [code_apply hX I, I.w]
  rw [scale_apply hX I, I.ws, I.t, Args.ofBits_30, Ideal.div_coe (by norm_num)]
  unfold Args.lg
  rw [Args.gain_eq hT, Ideal.div, if_neg (hT r), ← mul_assoc, mul_comm (((30 : ℝ)) : EReal)]

/-- Choosing by the mask bit is choosing by the mask. -/
theorem sel_ok {α : Type} (I : In A x w ws b t cd) (r : Fin 24) (v : Fin 128256) (p q : α) :
    Scalar.select (IntOp.cmpi .eq (b (ix2 r v)) 1#32) p q = if A.ok r v.val then p else q := by
  rw [I.b, WordCmp.select_ofBool]
  exact if_congr ⟨fun h => ⟨v.isLt, h⟩, fun h => h.2⟩ rfl rfl

/-- A stored logit. -/
theorem out_apply (hX : A.XOk) (hT : A.TempOk) (I : In A x w ws b t cd) (r : Fin 24) (v : Fin 128256) :
    k0_pay1 (F := Ideal) (k0_pay11 (F := Ideal) (k0_pay8 (F := Ideal) x w ws) t b) (ix3 r 0 v) = A.out r v.val := by
  pointwise [k0_pay1, k0_pay11, k0_pay10]
  rw [sel_ok I, lg_apply hX hT I]
  rfl

end Cert.ReferenceIdeal.Hand

end
-- ==== Proof.ReferenceIdealLse.lean ====
/-
  The reference's log-sum-exp and the candidates' log-probabilities at the ideal numbers.
-/
module

public import proofs.«01_k».proof.Proof.ReferenceIdealVal

@[expose] public section

noncomputable section

namespace Cert.ReferenceIdeal.Hand

open Cert.ReferenceIdeal Cert.ReferenceIdeal.Gen
open Cert.Head
open Idealize.ShloMosaic

set_option maxRecDepth 16384

variable {A : Args}

/-- The masked logits, negative infinity where the mask forbids. -/
def maskedV (v42 : FVec Ideal S24x128256 .f32) (t : Vec Ideal S24x1 .f32) (b : Vec Ideal S24x128256 .i32) : FVec Ideal S24x128256 .f32 :=
  select (k0_pay10 (F := Ideal) b) (k0_pay9 (F := Ideal) v42 t) (broadcast S24x128256 (Scalar.ofBits .f32 0xFF800000#32))

/-- The shift made of a row's maximum: the maximum where it is finite, else zero. -/
def shiftV (mx : FVec Ideal S24 .f32) : FVec Ideal S24x1 .f32 :=
  select (xori (weird (F := Ideal) (shapeCast S24x1 (maximumf (F := Ideal) (broadcast S24 (Scalar.ofBits .f32 0xFF800000#32)) mx) shapeCasts_S24_S24x1)) (constantI S24x1 1 1#1))
    (shapeCast S24x1 (maximumf (F := Ideal) (broadcast S24 (Scalar.ofBits .f32 0xFF800000#32)) mx) shapeCasts_S24_S24x1) (broadcast S24x1 (Scalar.ofBits .f32 0x00000000#32))

/-- The log-sum-exp of the masked logits at a shift. -/
def lseV (mk : FVec Ideal S24x128256 .f32) (sh : FVec Ideal S24x1 .f32) : FVec Ideal S24x1 .f32 :=
  addf (log (absf (shapeCast S24x1 (multiReduction (F := Ideal) .add [1] S24 (exp (subf mk (broadcastTo S24x128256 sh broadcasts_S24x1_S24x128256)))
    0x00000000#32 reduces_S24x128256_S24 (.inl rfl) rfl) shapeCasts_S24_S24x1))) sh

/-- The reference's log-sum-exp, its parts named. -/
theorem pay12_eq (v42 : FVec Ideal S24x128256 .f32) (t : Vec Ideal S24x1 .f32) (b : Vec Ideal S24x128256 .i32) :
    k0_pay12 (F := Ideal) v42 t b = lseV (maskedV v42 t b)
      (shiftV (multiReduction (F := Ideal) .maximumf [1] S24 (maskedV v42 t b) 0xFF800000#32 reduces_S24x128256_S24 (.inl rfl) rfl)) := rfl

/-- The shift of a maximum that is no positive infinity is a real. -/
theorem shift_real (mx : FVec Ideal S24 .f32) (r : Fin 24) (h : mx (ix1 r) ≠ (⊤ : EReal)) : ∃ μ : ℝ, shiftV mx (ix2 r 0) = (μ : EReal) := by
  pointwise [shiftV]
  revert h
  generalize mx (ix1 r) = z
  intro h
  rw [ofBits_ninf, max_bot_left]
  show ∃ μ : ℝ, Scalar.select (IntOp.xori (BitVec.ofBool (decide (z = (⊤ : EReal) ∨ z = (⊥ : EReal)))) 1#1) z 0 = (μ : EReal)
  induction z using EReal.rec with
  | bot => exact ⟨0, by rw [decide_eq_true (Or.inr rfl)]; rfl⟩
  | top => exact absurd rfl h
  | coe q => exact ⟨q, by rw [decide_eq_false (by simp)]; rfl⟩

/-- The log-sum-exp at a shift, index by index. -/
theorem lseV_apply (mk : FVec Ideal S24x128256 .f32) (sh : FVec Ideal S24x1 .f32) (r : Fin 24) :
    lseV mk sh (ix2 r 0) = Ideal.log (FloatOps.absf (F := Ideal) (φ := .f32) (∑ v : Fin 128256, Ideal.exp (mk (ix2 r v) - sh (ix2 r 0)))) + sh (ix2 r 0) := by
  pointwise [lseV]

variable {x : Vec Ideal S24x3072 .bf16} {w : Vec Ideal S3072x128256 .fp8e4m3} {ws : Vec Ideal S1x128256 .f32}
    {b : Vec Ideal S24x128256 .i32} {t : Vec Ideal S24x1 .f32} {cd : Vec Ideal S24x64 .i32}

/-- A masked logit. -/
theorem masked_apply (hX : A.XOk) (hT : A.TempOk) (I : In A x w ws b t cd) (r : Fin 24) (v : Fin 128256) :
    maskedV (k0_pay8 (F := Ideal) x w ws) t b (ix2 r v) = if A.ok r v.val then A.lg r v.val else ⊥ := by
  pointwise [maskedV, k0_pay10]
  rw [sel_ok I, lg_apply hX hT I, ofBits_ninf]

/-- A maximum of values none of which is a positive infinity is none. -/
theorem max_ne_top {s t : Shape} {a : Fin s.rank} (src : FVec Ideal s .f32) (h : s.Reduces [a] t) (hφ : FKind.Formats .f32)
    (hacc : (0xFF800000#32 : BitVec 32) = FKind.maximumf.neutral .f32 hφ) (j : t.Idx) (hs : ∀ i, src i ≠ (⊤ : EReal)) :
    multiReduction .maximumf [a] t src 0xFF800000#32 h hφ hacc j ≠ (⊤ : EReal) := by
  rw [Ideal.multiReduction_maximumf_single]
  refine ne_of_lt ((Finset.fold_max_lt _).2 ⟨?_, fun i _ => lt_top_iff_ne_top.2 (hs _)⟩)
  show Ideal.ofBits .f32 0xFF800000#32 < ⊤
  rw [ofBits_ninf]
  exact bot_lt_top

/-- The log-sum-exp of a row. -/
theorem lse_apply (hX : A.XOk) (hT : A.TempOk) (I : In A x w ws b t cd) (r : Fin 24) :
    k0_pay12 (F := Ideal) (k0_pay8 (F := Ideal) x w ws) t b (ix2 r 0) = A.lse r := by
  rw [pay12_eq]
  have hm := masked_apply hX hT I
  revert hm
  generalize maskedV (k0_pay8 (F := Ideal) x w ws) t b = mk
  intro hm
  have nt : ∀ i, mk i ≠ (⊤ : EReal) := by
    intro i
    obtain ⟨r', v, rfl⟩ : ∃ (r' : Fin 24) (v : Fin 128256), i = ix2 r' v :=
      ⟨i 0, i 1, by funext a; match a with | 0 => rfl | 1 => rfl⟩
    rw [hm]
    split
    · rw [Args.lg_real hT]; exact EReal.coe_ne_top _
    · exact bot_ne_top
  have hmx := max_ne_top mk reduces_S24x128256_S24 (.inl rfl) rfl (ix1 r) nt
  revert hmx
  generalize multiReduction (F := Ideal) .maximumf [1] S24 mk 0xFF800000#32 reduces_S24x128256_S24 (.inl rfl) rfl = mx
  intro hmx
  obtain ⟨μ, hμ⟩ := shift_real mx r hmx
  rw [lseV_apply, hμ]
  have e : ∀ v : Fin 128256, Ideal.exp (mk (ix2 r v) - (μ : EReal))
      = ((if A.ok r v.val then Real.exp ((A.lg r v.val).toReal - μ) else 0 : ℝ) : EReal) := by
    intro v
    rw [hm]
    split
    · rw [Args.lg_real hT r v.val, ← EReal.coe_sub]; rfl
    · rw [EReal.bot_sub]; rfl
  rw [Finset.sum_congr rfl fun v _ => e v, Args.sum_coe,
    Fin.sum_univ_eq_sum_range (fun v => if A.ok r v then Real.exp ((A.lg r v).toReal - μ) else 0) 128256]
  have n : (0 : ℝ) ≤ ∑ v ∈ Finset.range 128256, if A.ok r v then Real.exp ((A.lg r v).toReal - μ) else 0 :=
    Finset.sum_nonneg fun i _ => by split <;> positivity
  have abs : ∀ z : ℝ, 0 ≤ z → FloatOps.absf (F := Ideal) (φ := .f32) (z : EReal) = (z : EReal) := by
    intro z hz
    show max (z : EReal) (-(z : EReal)) = z
    rw [← EReal.coe_neg]
    exact max_eq_left (EReal.coe_le_coe_iff.2 (by linarith))
  rw [abs _ n, Args.log_shift]
  rfl

/-- The row of log-sum-exps. -/
theorem lseRow_apply (hX : A.XOk) (hT : A.TempOk) (I : In A x w ws b t cd) (r : Fin 24) :
    k0_pay2 (F := Ideal) (k0_pay12 (F := Ideal) (k0_pay8 (F := Ideal) x w ws) t b) (ix2 0 r) = A.lse r := by
  have h := lse_apply hX hT I r
  revert h
  generalize k0_pay12 (F := Ideal) (k0_pay8 (F := Ideal) x w ws) t b = y
  intro h
  pointwise [k0_pay2]
  exact h

/-- A column's log-probability where the mask allows. -/
theorem lpCol_apply (hX : A.XOk) (hT : A.TempOk) (I : In A x w ws b t cd) (r : Fin 24) (v : Fin 128256) :
    k0_pay14 (F := Ideal) (k0_pay8 (F := Ideal) x w ws) t b (ix3 r 0 v) = if A.ok r v.val then A.lg r v.val - A.lse r else 0 := by
  have h := lse_apply hX hT I r
  unfold k0_pay14
  revert h
  generalize k0_pay12 (F := Ideal) (k0_pay8 (F := Ideal) x w ws) t b = y
  intro h
  pointwise [k0_pay10]
  rw [sel_ok I, lg_apply hX hT I, h]

/-- A sum that picks one column out. -/
theorem sum_pick (f : Fin 128256 → EReal) (c : BitVec 32) :
    ∑ v : Fin 128256, Scalar.select (IntOp.cmpi .eq (BitVec.ofNat 32 v.val) c) (f v) 0 = if h : c.toNat < 128256 then f ⟨c.toNat, h⟩ else 0 := by
  have e : ∀ v : Fin 128256, IntOp.cmpi .eq (BitVec.ofNat 32 v.val) c = BitVec.ofBool (decide (v.val = c.toNat)) := by
    intro v
    rw [WordCmp.cmpi_eq_eq_toNat, BitVec.toNat_ofNat, Nat.mod_eq_of_lt (by have := v.isLt; omega)]
  simp only [e, WordCmp.select_ofBool, decide_eq_true_eq]
  by_cases h : c.toNat < 128256
  · rw [dif_pos h, Finset.sum_eq_single ⟨c.toNat, h⟩]
    · rw [if_pos rfl]
    · intro v _ hv; exact if_neg fun h2 => hv (Fin.ext h2)
    · intro h2; exact absurd (Finset.mem_univ _) h2
  · rw [dif_neg h]
    exact Finset.sum_eq_zero fun v _ => if_neg fun h2 => h (by have := v.isLt; omega)

/-- The candidates' log-probabilities. -/
theorem lp_apply (hX : A.XOk) (hT : A.TempOk) (I : In A x w ws b t cd) (r : Fin 24) (j : Fin 64) :
    k0_pay3 (F := Ideal) (k0_pay13 (F := Ideal) cd) (Scalar.ofBits .f32 0x00000000#32) (k0_pay14 (F := Ideal) (k0_pay8 (F := Ideal) x w ws) t b) (ix3 r 0 j) = A.lp r j := by
  have h := lpCol_apply hX hT I r
  revert h
  generalize k0_pay14 (F := Ideal) (k0_pay8 (F := Ideal) x w ws) t b = y
  intro h
  pointwise [k0_pay3, k0_pay13]
  rw [sum_pick (fun v => y (ix3 r 0 v)), I.cd]
  unfold Args.lp
  split
  · rw [h]
  · rename_i h2
    exact (if_neg fun h3 => h2 h3.1).symm

end Cert.ReferenceIdeal.Hand

end
-- ==== Proof.ReferenceIdealArr.lean ====
/-
  The run of `ReferenceIdeal` with its values: what its body finds in its input buffers, and the five result arrays at the
  head's closed forms.
-/
module

public import proofs.«01_k».proof.Proof.ReferenceIdealVal
public import proofs.«01_k».proof.Proof.ReferenceIdealLse
public import proofs.«01_k».proof.Proof.Arrays
public import Idealize.ShloMosaic.Lib.Pipeline.Value
public import Idealize.ShloMosaic.Lib.Pipeline.ValueKit.Geometry
public import Idealize.ShloMosaic.Lib.Pipeline.Covers
public import Idealize.ShloMosaic.Lib.Claim
public import Idealize.ShloMosaic.Lib.Tactic.CleanTypes
public import Idealize.ShloMosaic.Lib.Tactic
public import Idealize.ShloMosaic.Lib.Pointwise

@[expose] public section

set_option maxRecDepth 16384

noncomputable section

namespace Cert.ReferenceIdeal.Hand

open Cert.ReferenceIdeal Cert.ReferenceIdeal.Gen
open Cert.Head
open Idealize.ShloMosaic Idealize.ShloMosaic.TcCoe Idealize.ShloMosaic.Tactic
open Idealize.SL.Sem

variable (m : (ℓ : Loc nD τ sig) → Buf (Elt Ideal) ℓ) (ρ : Dev nD → PrngReg)

/-- The arguments on a core. -/
def argsR (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The activations as the region finds them. -/
theorem V_v9 (c : Dev nD) (r : Fin 24) (k : Fin 3072) : V (F := Ideal) m c main_v9 (ix2 r k) = (argsR m c).x r k := by
  unfold_abbrev_sides
  after_results
  clean_types
  pointwise

/-- The columns' scales as the region finds them. -/
theorem V_v10 (c : Dev nD) (v : Fin 128256) : V (F := Ideal) m c main_v10 (ix2 0 v) = (argsR m c).ws v.val := by
  unfold_abbrev_sides
  after_results
  clean_types
  pointwise

/-- The temperatures as the region finds them. -/
theorem V_v11 (c : Dev nD) (r : Fin 24) : V (F := Ideal) m c main_v11 (ix2 r 0) = (argsR m c).temp r := by
  unfold_abbrev_sides
  after_results
  clean_types
  pointwise

/-- The candidates as the region finds them. -/
theorem V_v12 (c : Dev nD) (r : Fin 24) (j : Fin 64) : V (F := Ideal) m c main_v12 (ix2 r j) = (argsR m c).cand r j := by
  unfold_abbrev_sides
  after_results
  clean_types
  pointwise

/-- The mask's words, spread over the vocabulary and shifted down to their bits, as the region finds them. -/
theorem V_v8 (c : Dev nD) (r : Fin 24) (v : Fin 128256) :
    V (F := Ideal) m c main_v8 (ix2 r v)
      = IntOp.andi (IntOp.shrsi .host ((argsR m c).bits r (v.val / 32)) (BitVec.ofNat 32 (v.val % 32))) 1#32 := by
  unfold_abbrev_sides
  after_results
  clean_types
  pointwise
  have h : v.val / 32 < 4008 := by have := v.isLt; omega
  rw [show (argsR m c).bits r (v.val / 32) = m ((c.tc : Thread nD τ).loc main_arg3) (ix2 r ⟨v.val / 32, h⟩) from dif_pos h]

/-- Testing a bit of a word by shifting it down on the host. -/
theorem bit_shift_host (x k : BitVec 32) (hk : k.toNat < 32) :
    IntOp.cmpi .eq (IntOp.andi (IntOp.shrsi .host x k) 1#32) 1#32 = BitVec.ofBool (x.getLsbD k.toNat) := by
  rw [← bit_shift x k hk]
  unfold IntOp.shrsi
  rw [if_pos hk, if_pos hk]

/-- The input windows' one block is at the origin. -/
theorem origin : ∀ t : Fin 1, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 := by decide +kernel

/-- What the body finds in its input buffers. -/
theorem in_blocks (c : Dev nD) (t : Fin cfg0.N) :
    In (argsR m c) (iblk m c 0 t) (iblk m c 1 t) (iblk m c 2 t) (iblk m c 3 t) (iblk m c 4 t) (iblk m c 5 t) where
  x r k := (congrArg (V m c main_v9) (by obtain ⟨a0, a1, b0, b1, c0, c1, d0, d1, e0, e1, f0, f1⟩ := origin t; blk_ext [a0, a1] : _ = ix2 r k)).trans (V_v9 m c r k)
  w k v := (congrArg (V m c main_arg1) (by obtain ⟨a0, a1, b0, b1, c0, c1, d0, d1, e0, e1, f0, f1⟩ := origin t; blk_ext [b0, b1] : _ = ix2 k v)).trans
    ((congrFun (V_main_arg1 m c) _).trans (show (argsR m c).w k v.val = m ((c.tc : Thread nD τ).loc main_arg1) (ix2 k v) from dif_pos v.isLt).symm)
  ws v := (congrArg (V m c main_v10) (by obtain ⟨a0, a1, b0, b1, c0, c1, d0, d1, e0, e1, f0, f1⟩ := origin t; blk_ext [c0, c1] : _ = ix2 0 v)).trans (V_v10 m c v)
  b r v := by
    have e : iblk m c 3 t (ix2 r v) = _ := (congrArg (V m c main_v8) (by obtain ⟨a0, a1, b0, b1, c0, c1, d0, d1, e0, e1, f0, f1⟩ := origin t; blk_ext [d0, d1] : _ = ix2 r v)).trans (V_v8 m c r v)
    have h : (BitVec.ofNat 32 (v.val % 32)).toNat = v.val % 32 := by rw [BitVec.toNat_ofNat]; omega
    rw [e, bit_shift_host _ _ (by rw [h]; omega), h]
  t r := (congrArg (V m c main_v11) (by obtain ⟨a0, a1, b0, b1, c0, c1, d0, d1, e0, e1, f0, f1⟩ := origin t; blk_ext [e0, e1] : _ = ix2 r 0)).trans (V_v11 m c r)
  cd r j := (congrArg (V m c main_v12) (by obtain ⟨a0, a1, b0, b1, c0, c1, d0, d1, e0, e1, f0, f1⟩ := origin t; blk_ext [f0, f1] : _ = ix2 r j)).trans (V_v12 m c r j)

/-- What the body leaves of the stored logits. -/
theorem out6_apply {A : Args} (hX : A.XOk) (hT : A.TempOk) {x0 x1 x2 x3 x4 x5} (I : In A x0 x1 x2 x3 x4 x5) (r : Fin 24) (v : Fin 128256) :
    out0_6 (F := Ideal) x0 x1 x2 x3 x4 x5 (ix3 r 0 v) = A.out r v := by
  unfold_out out0_6
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide)]
  exact out_apply hX hT I r v

/-- The stored logits, as an array. -/
theorem out6_eq {A : Args} (hX : A.XOk) (hT : A.TempOk) {x0 x1 x2 x3 x4 x5} (I : In A x0 x1 x2 x3 x4 x5) :
    out0_6 (F := Ideal) x0 x1 x2 x3 x4 x5 = outArr A := by
  funext y
  obtain ⟨r, z, v, rfl⟩ : ∃ (r : Fin 24) (z : Fin 1) (v : Fin 128256), y = ix3 r z v := ⟨y 0, y 1, y 2, by
    funext a
    match a with
    | 0 => rfl
    | 1 => rfl
    | 2 => rfl⟩
  rw [Subsingleton.elim z 0, out6_apply hX hT I]
  rfl

/-- What the body leaves of the log-sum-exps. -/
theorem out7_apply {A : Args} (hX : A.XOk) (hT : A.TempOk) {x0 x1 x2 x3 x4 x5} (I : In A x0 x1 x2 x3 x4 x5) (r : Fin 24) :
    out0_7 (F := Ideal) x0 x1 x2 x3 x4 x5 (ix2 0 r) = A.lse r := by
  unfold_out out0_7
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide)]
  exact lseRow_apply hX hT I r

/-- What the body leaves of the candidates' log-probabilities. -/
theorem out8_apply {A : Args} (hX : A.XOk) (hT : A.TempOk) {x0 x1 x2 x3 x4 x5} (I : In A x0 x1 x2 x3 x4 x5) (r : Fin 24) (j : Fin 64) :
    out0_8 (F := Ideal) x0 x1 x2 x3 x4 x5 (ix3 r 0 j) = A.lp r j := by
  unfold_out out0_8
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide), View.ld_unit_lit _ x5 (by decide)]
  exact lp_apply hX hT I r j

/-- What the body leaves of the codes. -/
theorem out9_apply {A : Args} (hX : A.XOk) {x0 x1 x2 x3 x4 x5} (I : In A x0 x1 x2 x3 x4 x5) (r : Fin 24) (k : Fin 3072) :
    out0_9 (F := Ideal) x0 x1 x2 x3 x4 x5 (ix2 r k) = A.code r k := by
  unfold_out out0_9
  rw [View.canon_cons_unit_lit _ _ _ (by decide), View.ld_unit_lit _ x0 (by decide)]
  exact code_apply hX I r k

/-- What the body leaves of the scales. -/
theorem out10_apply {A : Args} (hX : A.XOk) {x0 x1 x2 x3 x4 x5} (I : In A x0 x1 x2 x3 x4 x5) (r : Fin 24) :
    out0_10 (F := Ideal) x0 x1 x2 x3 x4 x5 (ix2 0 r) = A.scale r := by
  unfold_out out0_10
  rw [View.canon_cons_unit_lit _ _ _ (by decide), View.ld_unit_lit _ x0 (by decide)]
  exact scaleRow_apply hX I r

/-- The results are written back whole at the one point. -/
theorem whole6 : win0_6.WholeAt ⟨0, by decide⟩ := by decide +kernel
theorem whole7 : win0_7.WholeAt ⟨0, by decide⟩ := by decide +kernel
theorem whole8 : win0_8.WholeAt ⟨0, by decide⟩ := by decide +kernel
theorem whole9 : win0_9.WholeAt ⟨0, by decide⟩ := by decide +kernel
theorem whole10 : win0_10.WholeAt ⟨0, by decide⟩ := by decide +kernel

/-- Every execution of @main ends with the results at the head's closed forms and the arguments unchanged. -/
theorem run_vals (hX : ∀ c, (argsR m c).XOk) (hT : ∀ c, (argsR m c).TempOk) :
    θ_run defs (onTc (τ := τ) (main (F := Ideal))) ⟨m, fun _ => 0, ρ⟩ (fun r => ∀ c : Dev nD,
      r.2.mem ((c.tc : Thread nD τ).loc main_v13_0) = outArr (argsR m c)
      ∧ r.2.mem ((c.tc : Thread nD τ).loc main_v13_1) = lseArr (argsR m c)
      ∧ r.2.mem ((c.tc : Thread nD τ).loc main_v13_2) = lpArr (argsR m c)
      ∧ r.2.mem ((c.tc : Thread nD τ).loc main_v13_3) = codeArr (argsR m c)
      ∧ r.2.mem ((c.tc : Thread nD τ).loc main_v13_4) = scaleArr (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨r6, r7, r8, r9, r10, ra⟩ := h c
    have I := in_blocks m c ⟨0, by decide⟩
    refine ⟨r6.trans ?_, r7.trans ?_, r8.trans ?_, r9.trans ?_, r10.trans ?_, ra⟩
    · refine Pipeline.Dat.arrAt_eq_of_after_last _ 6 _ whole6 _ fun j => ?_
      rw [after0_6]
      rw [out6_eq (hX c) (hT c) I]
      refine congrArg (outArr (argsR m c)) (?_ : _ = j)
      rfl
    · refine Pipeline.Dat.arrAt_eq_of_after_last _ 7 _ whole7 _ fun j => ?_
      have b0 : (j 0).val < 1 := (j 0).isLt
      rw [after0_7]
      refine Eq.trans (congrArg (out0_7 _ _ _ _ _ _) (?_ : _ = ix2 0 (j 1))) (out7_apply (hX c) (hT c) I _)
      funext a
      match a with
      | 0 => exact Fin.ext (by show (j 0).val = 0; omega)
      | 1 => rfl
    · refine Pipeline.Dat.arrAt_eq_of_after_last _ 8 _ whole8 _ fun j => ?_
      have b1 : (j 1).val < 1 := (j 1).isLt
      rw [after0_8]
      refine Eq.trans (congrArg (out0_8 _ _ _ _ _ _) (?_ : _ = ix3 (j 0) 0 (j 2))) (out8_apply (hX c) (hT c) I _ _)
      funext a
      match a with
      | 0 => rfl
      | 1 => exact Fin.ext (by show (j 1).val = 0; omega)
      | 2 => rfl
    · refine Pipeline.Dat.arrAt_eq_of_after_last _ 9 _ whole9 _ fun j => ?_
      rw [after0_9]
      refine Eq.trans (congrArg (out0_9 _ _ _ _ _ _) (?_ : _ = ix2 (j 0) (j 1))) (out9_apply (hX c) I _ _)
      funext a
      match a with
      | 0 => rfl
      | 1 => rfl
    · refine Pipeline.Dat.arrAt_eq_of_after_last _ 10 _ whole10 _ fun j => ?_
      have b0 : (j 0).val < 1 := (j 0).isLt
      rw [after0_10]
      refine Eq.trans (congrArg (out0_10 _ _ _ _ _ _) (?_ : _ = ix2 0 (j 1))) (out10_apply (hX c) I _)
      funext a
      match a with
      | 0 => exact Fin.ext (by show (j 0).val = 0; omega)
      | 1 => rfl) (Cert.ReferenceIdeal.Value.run_blocks m ρ)

end Cert.ReferenceIdeal.Hand

end
-- ==== Proof.Conditions.lean ====
/-
  The precondition, by coordinates: what the predicate over the arguments says of each of them.
-/
module

public import proofs.«01_k».proof.Proof.Gen.Pre_ok
public import proofs.«01_k».proof.Proof.KernelIdealLanes
public import proofs.«01_k».proof.Proof.Arrays
public import proofs.«01_k».proof.Proof.Bound
public import Idealize.ShloMosaic.Lib.ReduceAll
public import Idealize.ShloMosaic.Lib.WordCmp

@[expose] public section

noncomputable section

namespace Cert.Head

open Idealize.ShloMosaic

/-- An array without axes has one index. -/
instance : Subsingleton Cert.Pre_ok.S_.Idx := ⟨fun _ _ => funext fun a => nomatch a⟩

/-- Where the predicate holds the activations are bounded, no temperature is zero and every candidate lies below the
    vocabulary's size. -/
theorem ok_iff [Cert.Pre_ok.Facts] (a0 : Vec Ideal ⟨3, ![24, 1, 3072]⟩ .bf16) (a1 : Vec Ideal ⟨2, ![3072, 128256]⟩ .fp8e4m3)
    (a2 : Vec Ideal ⟨1, ![128256]⟩ .f32) (a3 : Vec Ideal ⟨2, ![24, 4008]⟩ .i32) (a4 : Vec Ideal ⟨1, ![24]⟩ .f32)
    (a5 : Vec Ideal ⟨3, ![24, 1, 64]⟩ .i32) (h : Cert.Pre_ok.fn (F := Ideal) a0 a1 a2 a3 a4 a5 = fun _ => 1#1) :
    (argsOf a0 a1 a2 a3 a4 a5).XOk ∧ (argsOf a0 a1 a2 a3 a4 a5).TempOk ∧ Cert.KernelIdeal.Hand.CandOk (argsOf a0 a1 a2 a3 a4 a5) := by
  have h0 := congrFun h ix0
  obtain ⟨h1, h5⟩ := IntOp.andi_eq_one.1 h0
  obtain ⟨hx, ht⟩ := IntOp.andi_eq_one.1 h1
  refine ⟨fun r k => ?_, fun r => ?_, fun r j => ?_⟩
  · have e := Host.reduce_andi_all _ _ _ _ _ hx (ix3 r 0 k)
    have e' : BitVec.ofBool (decide (max (a0 (ix3 r 0 k)) (-(a0 (ix3 r 0 k))) ≤ Ideal.ofBits .f32 0x7F7F0000#32)) = 1#1 := e
    by_contra hc
    rw [decide_eq_false (show ¬ max (a0 (ix3 r 0 k)) (-(a0 (ix3 r 0 k))) ≤ Ideal.ofBits .f32 0x7F7F0000#32 from hc)] at e'
    exact absurd e' (by decide)
  · have e := Host.reduce_andi_all _ _ _ _ _ ht (ix1 r)
    have e' : BitVec.ofBool (decide (a4 (ix1 r) ≠ Ideal.ofBits .f32 0x00000000#32)) = 1#1 := e
    intro hc
    rw [decide_eq_false (not_not.2 ((show a4 (ix1 r) = 0 from hc).trans (Ideal.ofBits_zero .f32).symm))] at e'
    exact absurd e' (by decide)
  · have e := Host.reduce_andi_all _ _ _ _ _ h5 (ix3 r 0 j)
    have e' := IntOp.cmpi_slt.1 e
    exact lt_of_lt_of_eq e' (by show (128256#32).toInt = 128256; decide)

end Cert.Head

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_ok
public import proofs.«01_k».proof.Proof.KernelFrame
public import proofs.«01_k».proof.Proof.KernelIdealFrame
public import proofs.«01_k».proof.Proof.KernelIdealVal
public import proofs.«01_k».proof.Proof.ReferenceIdealArr
public import proofs.«01_k».proof.Proof.Conditions
public import Idealize.ShloMosaic.Adequacy
public import Idealize.ShloMosaic.Init

@[expose] public section

noncomputable section

namespace Cert.Proof

open Idealize.ShloMosaic Idealize.SL.Sem Cert.Kernel

/-- The five results agree: both programs, from the same arguments within the precondition, end with the head's closed
forms, and both leave their arguments as they were. -/
theorem algebraic [hP : Cert.Pre_ok.Facts] : Cert.algebraic_KernelIdeal_ReferenceIdeal_pre_ok (hKernelIdeal := Cert.KernelIdeal.Gen.facts)
    (hReferenceIdeal := Cert.ReferenceIdeal.Gen.facts) := fun m g m' g' pre args => by
  have ok := fun c => Cert.Head.ok_iff _ _ _ _ _ _ (pre c)
  have same : ∀ c, Cert.ReferenceIdeal.Hand.argsR m' c = Cert.KernelIdeal.Hand.argsK m c := fun c => by
    obtain ⟨h0, h1, h2, h3, h4, h5⟩ := args c
    unfold Cert.ReferenceIdeal.Hand.argsR Cert.KernelIdeal.Hand.argsK
    rw [h0, h1, h2, h3, h4, h5]
  refine ⟨fun c => Cert.Head.outArr (Cert.KernelIdeal.Hand.argsK m c), fun c => Cert.Head.lseArr (Cert.KernelIdeal.Hand.argsK m c),
    fun c => Cert.Head.lpArr (Cert.KernelIdeal.Hand.argsK m c), fun c => Cert.Head.codeArr (Cert.KernelIdeal.Hand.argsK m c),
    fun c => Cert.Head.scaleArr (Cert.KernelIdeal.Hand.argsK m c),
    Cert.KernelIdeal.HandV.run_vals m g (fun c => (ok c).2.1) (fun c => (ok c).2.2), ?_⟩
  refine (θ_run _ _ _).mono (fun r h c => ?_) (Cert.ReferenceIdeal.Hand.run_vals m' g' (fun c => by rw [same]; exact (ok c).1)
    (fun c => by rw [same]; exact (ok c).2.1))
  have h := h c
  rw [same] at h
  exact h

/-- The whole certificate: the frames (each program runs, leaves its arguments as they were and ends with every semaphore at
zero), the naming of the reciprocal cap, and the equality of the results. -/
theorem claim : Cert.Claim :=
  ⟨Cert.Kernel.Gen.facts, Cert.KernelIdeal.Gen.facts, Cert.ReferenceIdeal.Gen.facts, Cert.Pre_ok.Gen.facts,
    fun m g _ => Cert.Kernel.Hand.frame (F := Bits) m g,
    fun m g _ => Cert.KernelIdeal.Hand.frame (F := Ideal) m g,
    fun m g _ => Cert.KernelIdeal.Hand.frame (F := Ideal) m g,
    fun m g _ => Cert.ReferenceIdeal.Gen.frame (F := Ideal) m g,
    fun m g _ => Cert.ReferenceIdeal.Gen.frame (F := Ideal) m g,
    IdealRules.named_const.statement Cert.KernelIdeal.κ "inv_cap" .f32 0x3D088889#32 ((1 / 30 : ℝ) : EReal) rfl,
    algebraic (hP := Cert.Pre_ok.Gen.facts)⟩

end Cert.Proof
